-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v162)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 512]⟩ ⟨2, ![1024, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v162) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S256x512 : Shape := ⟨2, ![256, 512]⟩
abbrev S1024x4 : Shape := ⟨2, ![1024, 4]⟩
abbrev S6x128x512 : Shape := ⟨3, ![6, 128, 512]⟩
abbrev S6 : Shape := ⟨1, ![6]⟩
abbrev S_ : Shape := ⟨0, ![]⟩
abbrev S256x4 : Shape := ⟨2, ![256, 4]⟩
abbrev S256x256 : Shape := ⟨2, ![256, 256]⟩
abbrev S1x16 : Shape := ⟨2, ![1, 16]⟩
abbrev S256x1 : Shape := ⟨2, ![256, 1]⟩
abbrev S16 : Shape := ⟨1, ![16]⟩
abbrev S256 : Shape := ⟨1, ![256]⟩
abbrev S1024x512 : Shape := ⟨2, ![1024, 512]⟩
abbrev S128x256 : Shape := ⟨2, ![128, 256]⟩
abbrev S128x4 : Shape := ⟨2, ![128, 4]⟩
abbrev S128x1 : Shape := ⟨2, ![128, 1]⟩
abbrev S128x1024 : Shape := ⟨2, ![128, 1024]⟩
abbrev S128x512 : Shape := ⟨2, ![128, 512]⟩
abbrev S1x128x512 : Shape := ⟨3, ![1, 128, 512]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S1024x256, .bf16⟩
  | .hbm, ⟨1, _⟩ => ⟨S256x16, .bf16⟩
  | .hbm, ⟨2, _⟩ => ⟨S1024x1, .i32⟩
  | .hbm, ⟨3, _⟩ => ⟨S4x256x512, .bf16⟩
  | .hbm, ⟨4, _⟩ => ⟨S256x512, .f32⟩
  | .local _ .vmem, ⟨0, _⟩ => ⟨S1024x256, .bf16⟩
  | .local _ .vmem, ⟨1, _⟩ => ⟨S1024x1, .i32⟩
  | .local _ .vmem, ⟨2, _⟩ => ⟨S4x256x512, .bf16⟩
  | .local _ .vmem, ⟨3, _⟩ => ⟨S256x512, .f32⟩
  | .local _ .vmem, ⟨4, _⟩ => ⟨S1024x4, .bf16⟩
  | .local _ .vmem, ⟨5, _⟩ => ⟨S6x128x512, .bf16⟩
  | .local _ .vmem, ⟨6, _⟩ => ⟨S6x128x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c2_i32_41 : BitVec 32) (c0_i32_43 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v162 : BitVec 32 := Scalar.addi v2 c2_i32_41
  let c4_i32_42 : BitVec 32 := 4#32
  let v163 : BitVec 32 := Scalar.remsi v162 c4_i32_42
  let c256_i32 : BitVec 32 := 256#32
  let v164 : BitVec 32 := Scalar.muli v163 c256_i32
  let v165 : BitVec 32 := Scalar.addi v164 c0_i32_43
  let v166 : Index := Scalar.indexCast v165
  let c0_44 : Index := 0#32
  ![v166.toNat, 0]
def k0_off2 (d0 : Dev nD) (c2_i32_41 : BitVec 32) (c0_i32_43 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v162 : BitVec 32 := Scalar.addi v2 c2_i32_41
  let c4_i32_42 : BitVec 32 := 4#32
  let v163 : BitVec 32 := Scalar.remsi v162 c4_i32_42
  let c256_i32 : BitVec 32 := 256#32
  let v164 : BitVec 32 := Scalar.muli v163 c256_i32
  let v165 : BitVec 32 := Scalar.addi v164 c0_i32_43
  let v169 : Index := Scalar.indexCast v165
  let c0_45 : Index := 0#32
  ![v169.toNat, 0]
def k0_dev4 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_41 : BitVec 32 := 2#32
  let v162 : BitVec 32 := Scalar.addi v2 c2_i32_41
  let c4_i32_42 : BitVec 32 := 4#32
  let v163 : BitVec 32 := Scalar.remsi v162 c4_i32_42
  let c1_i32_54 : BitVec 32 := 1#32
  let v189 : BitVec 32 := Scalar.muli v163 c1_i32_54
  let v190 : BitVec 32 := Scalar.addi c0_i32_55 v189
  v190.toNat
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_41 : BitVec 32 := 2#32
  let v162 : BitVec 32 := Scalar.addi v2 c2_i32_41
  let c4_i32_42 : BitVec 32 := 4#32
  let v163 : BitVec 32 := Scalar.remsi v162 c4_i32_42
  let c1_i32_70 : BitVec 32 := 1#32
  let v224 : BitVec 32 := Scalar.muli v163 c1_i32_70
  let v225 : BitVec 32 := Scalar.addi c0_i32_71 v224
  v225.toNat
def k0_dev6 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_76 : BitVec 32 := 1#32
  let v234 : BitVec 32 := Scalar.addi v2 c1_i32_76
  let c4_i32_77 : BitVec 32 := 4#32
  let v235 : BitVec 32 := Scalar.remsi v234 c4_i32_77
  let c1_i32_89 : BitVec 32 := 1#32
  let v261 : BitVec 32 := Scalar.muli v235 c1_i32_89
  let v262 : BitVec 32 := Scalar.addi c0_i32_90 v261
  v262.toNat
def k0_dev7 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_76 : BitVec 32 := 1#32
  let v234 : BitVec 32 := Scalar.addi v2 c1_i32_76
  let c4_i32_77 : BitVec 32 := 4#32
  let v235 : BitVec 32 := Scalar.remsi v234 c4_i32_77
  let c1_i32_105 : BitVec 32 := 1#32
  let v296 : BitVec 32 := Scalar.muli v235 c1_i32_105
  let v297 : BitVec 32 := Scalar.addi c0_i32_106 v296
  v297.toNat
def k0_dev8 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_111 : BitVec 32 := 3#32
  let v306 : BitVec 32 := Scalar.addi v2 c3_i32_111
  let c4_i32_112 : BitVec 32 := 4#32
  let v307 : BitVec 32 := Scalar.remsi v306 c4_i32_112
  let c1_i32_124 : BitVec 32 := 1#32
  let v333 : BitVec 32 := Scalar.muli v307 c1_i32_124
  let v334 : BitVec 32 := Scalar.addi c0_i32_125 v333
  v334.toNat
def k0_dev9 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_111 : BitVec 32 := 3#32
  let v306 : BitVec 32 := Scalar.addi v2 c3_i32_111
  let c4_i32_112 : BitVec 32 := 4#32
  let v307 : BitVec 32 := Scalar.remsi v306 c4_i32_112
  let c1_i32_141 : BitVec 32 := 1#32
  let v368 : BitVec 32 := Scalar.muli v307 c1_i32_141
  let v369 : BitVec 32 := Scalar.addi c0_i32_142 v368
  v369.toNat
def k0_off3 (d0 : Dev nD) (c0_i32_148 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_147 : BitVec 32 := 256#32
  let v378 : BitVec 32 := Scalar.muli v2 c256_i32_147
  let v379 : BitVec 32 := Scalar.addi v378 c0_i32_148
  let v380 : Index := Scalar.indexCast v379
  let c0_149 : Index := 0#32
  ![v380.toNat, 0]
def k0_off4 (d0 : Dev nD) (c0_i32_148 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_147 : BitVec 32 := 256#32
  let v378 : BitVec 32 := Scalar.muli v2 c256_i32_147
  let v379 : BitVec 32 := Scalar.addi v378 c0_i32_148
  let v383 : Index := Scalar.indexCast v379
  let c0_150 : Index := 0#32
  ![v383.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x256 : Shape := ⟨2, ![1024, 256]⟩
abbrev S256x16 : Shape := ⟨2, ![256, 16]⟩
abbrev S1024x1 : Shape := ⟨2, ![1024, 1]⟩
abbrev S16x256x512 : Shape := ⟨3, ![16, 256, 512]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩
abbrev S1024x512 : Shape := ⟨2, ![1024, 512]⟩
abbrev S1x256x512 : Shape := ⟨3, ![1, 256, 512]⟩
abbrev S256x512 : Shape := ⟨2, ![256, 512]⟩

abbrev nBuf : Space → Nat
  | .hbm => 202
  | .vmem => 0
  | .smem => 0
  | _ => 0

abbrev hbmTy0_0 (i : Nat) : BufTy := match i % 128 with
  | 0 => ⟨S1024x256, .bf16⟩
  | 1 => ⟨S256x16, .bf16⟩
  | 2 => ⟨S1024x1, .i32⟩
  | 3 => ⟨S16x256x512, .bf16⟩
  | 4 => ⟨S1024x256, .f32⟩
  | 5 => ⟨S1024, .i32⟩
  | 6 => ⟨S1024, .i32⟩
  | 7 => ⟨S1x1024, .i32⟩
  | 8 => ⟨S1024x1, .i32⟩
  | 9 => ⟨S1024x1024, .i32⟩
  | 10 => ⟨S1024x1024, .i32⟩
  | 11 => ⟨S1024x1024, .i1⟩
  | 12 => ⟨S1x1024, .i32⟩
  | 13 => ⟨S1024x1, .i32⟩
  | 14 => ⟨S1024x1024, .i32⟩
  | 15 => ⟨S1024x1024, .i32⟩
  | 16 => ⟨S1024x1024, .i1⟩
  | 17 => ⟨S1024x1024, .i1⟩
  | 18 => ⟨S1024x1024, .i32⟩
  | 19 => ⟨S_, .i32⟩
  | 20 => ⟨S1024, .i32⟩
  | 21 => ⟨S_, .i32⟩
  | 22 => ⟨S1024, .i32⟩
  | 23 => ⟨S1024, .i1⟩
  | 24 => ⟨S_, .f32⟩
  | 25 => ⟨S1024x512, .f32⟩
  | 26 => ⟨S_, .i32⟩
  | 27 => ⟨S1024, .i32⟩
  | 28 => ⟨S1024, .i1⟩
  | 29 => ⟨S1024, .i1⟩
  | 30 => ⟨S1024x1, .i1⟩
  | 31 => ⟨S1x256x512, .bf16⟩
  | 32 => ⟨S256x512, .bf16⟩
  | 33 => ⟨S256x512, .f32⟩
  | 34 => ⟨S1024x512, .f32⟩
  | 35 => ⟨S1024x512, .i1⟩
  | 36 => ⟨S1024x512, .f32⟩
  | 37 => ⟨S_, .i32⟩
  | 38 => ⟨S1024, .i32⟩
  | 39 => ⟨S1024, .i1⟩
  | 40 => ⟨S1024, .i1⟩
  | 41 => ⟨S1024x1, .i1⟩
  | 42 => ⟨S1x256x512, .bf16⟩
  | 43 => ⟨S256x512, .bf16⟩
  | 44 => ⟨S256x512, .f32⟩
  | 45 => ⟨S1024x512, .f32⟩
  | 46 => ⟨S1024x512, .i1⟩
  | 47 => ⟨S1024x512, .f32⟩
  | 48 => ⟨S_, .i32⟩
  | 49 => ⟨S1024, .i32⟩
  | 50 => ⟨S1024, .i1⟩
  | 51 => ⟨S1024, .i1⟩
  | 52 => ⟨S1024x1, .i1⟩
  | 53 => ⟨S1x256x512, .bf16⟩
  | 54 => ⟨S256x512, .bf16⟩
  | 55 => ⟨S256x512, .f32⟩
  | 56 => ⟨S1024x512, .f32⟩
  | 57 => ⟨S1024x512, .i1⟩
  | 58 => ⟨S1024x512, .f32⟩
  | 59 => ⟨S_, .i32⟩
  | 60 => ⟨S1024, .i32⟩
  | 61 => ⟨S1024, .i1⟩
  | 62 => ⟨S1024, .i1⟩
  | 63 => ⟨S1024x1, .i1⟩
  | 64 => ⟨S1x256x512, .bf16⟩
  | 65 => ⟨S256x512, .bf16⟩
  | 66 => ⟨S256x512, .f32⟩
  | 67 => ⟨S1024x512, .f32⟩
  | 68 => ⟨S1024x512, .i1⟩
  | 69 => ⟨S1024x512, .f32⟩
  | 70 => ⟨S_, .i32⟩
  | 71 => ⟨S1024, .i32⟩
  | 72 => ⟨S1024, .i1⟩
  | 73 => ⟨S1024, .i1⟩
  | 74 => ⟨S1024x1, .i1⟩
  | 75 => ⟨S1x256x512, .bf16⟩
  | 76 => ⟨S256x512, .bf16⟩
  | 77 => ⟨S256x512, .f32⟩
  | 78 => ⟨S1024x512, .f32⟩
  | 79 => ⟨S1024x512, .i1⟩
  | 80 => ⟨S1024x512, .f32⟩
  | 81 => ⟨S_, .i32⟩
  | 82 => ⟨S1024, .i32⟩
  | 83 => ⟨S1024, .i1⟩
  | 84 => ⟨S1024, .i1⟩
  | 85 => ⟨S1024x1, .i1⟩
  | 86 => ⟨S1x256x512, .bf16⟩
  | 87 => ⟨S256x512, .bf16⟩
  | 88 => ⟨S256x512, .f32⟩
  | 89 => ⟨S1024x512, .f32⟩
  | 90 => ⟨S1024x512, .i1⟩
  | 91 => ⟨S1024x512, .f32⟩
  | 92 => ⟨S_, .i32⟩
  | 93 => ⟨S1024, .i32⟩
  | 94 => ⟨S1024, .i1⟩
  | 95 => ⟨S1024, .i1⟩
  | 96 => ⟨S1024x1, .i1⟩
  | 97 => ⟨S1x256x512, .bf16⟩
  | 98 => ⟨S256x512, .bf16⟩
  | 99 => ⟨S256x512, .f32⟩
  | 100 => ⟨S1024x512, .f32⟩
  | 101 => ⟨S1024x512, .i1⟩
  | 102 => ⟨S1024x512, .f32⟩
  | 103 => ⟨S_, .i32⟩
  | 104 => ⟨S1024, .i32⟩
  | 105 => ⟨S1024, .i1⟩
  | 106 => ⟨S1024, .i1⟩
  | 107 => ⟨S1024x1, .i1⟩
  | 108 => ⟨S1x256x512, .bf16⟩
  | 109 => ⟨S256x512, .bf16⟩
  | 110 => ⟨S256x512, .f32⟩
  | 111 => ⟨S1024x512, .f32⟩
  | 112 => ⟨S1024x512, .i1⟩
  | 113 => ⟨S1024x512, .f32⟩
  | 114 => ⟨S_, .i32⟩
  | 115 => ⟨S1024, .i32⟩
  | 116 => ⟨S1024, .i1⟩
  | 117 => ⟨S1024, .i1⟩
  | 118 => ⟨S1024x1, .i1⟩
  | 119 => ⟨S1x256x512, .bf16⟩
  | 120 => ⟨S256x512, .bf16⟩
  | 121 => ⟨S256x512, .f32⟩
  | 122 => ⟨S1024x512, .f32⟩
  | 123 => ⟨S1024x512, .i1⟩
  | 124 => ⟨S1024x512, .f32⟩
  | 125 => ⟨S_, .i32⟩
  | 126 => ⟨S1024, .i32⟩
  | 127 => ⟨S1024, .i1⟩
  | _ => ⟨S1024x256, .bf16⟩

abbrev hbmTy0_1 (i : Nat) : BufTy := match i % 128 with
  | 0 => ⟨S1024, .i1⟩
  | 1 => ⟨S1024x1, .i1⟩
  | 2 => ⟨S1x256x512, .bf16⟩
  | 3 => ⟨S256x512, .bf16⟩
  | 4 => ⟨S256x512, .f32⟩
  | 5 => ⟨S1024x512, .f32⟩
  | 6 => ⟨S1024x512, .i1⟩
  | 7 => ⟨S1024x512, .f32⟩
  | 8 => ⟨S_, .i32⟩
  | 9 => ⟨S1024, .i32⟩
  | 10 => ⟨S1024, .i1⟩
  | 11 => ⟨S1024, .i1⟩
  | 12 => ⟨S1024x1, .i1⟩
  | 13 => ⟨S1x256x512, .bf16⟩
  | 14 => ⟨S256x512, .bf16⟩
  | 15 => ⟨S256x512, .f32⟩
  | 16 => ⟨S1024x512, .f32⟩
  | 17 => ⟨S1024x512, .i1⟩
  | 18 => ⟨S1024x512, .f32⟩
  | 19 => ⟨S_, .i32⟩
  | 20 => ⟨S1024, .i32⟩
  | 21 => ⟨S1024, .i1⟩
  | 22 => ⟨S1024, .i1⟩
  | 23 => ⟨S1024x1, .i1⟩
  | 24 => ⟨S1x256x512, .bf16⟩
  | 25 => ⟨S256x512, .bf16⟩
  | 26 => ⟨S256x512, .f32⟩
  | 27 => ⟨S1024x512, .f32⟩
  | 28 => ⟨S1024x512, .i1⟩
  | 29 => ⟨S1024x512, .f32⟩
  | 30 => ⟨S_, .i32⟩
  | 31 => ⟨S1024, .i32⟩
  | 32 => ⟨S1024, .i1⟩
  | 33 => ⟨S1024, .i1⟩
  | 34 => ⟨S1024x1, .i1⟩
  | 35 => ⟨S1x256x512, .bf16⟩
  | 36 => ⟨S256x512, .bf16⟩
  | 37 => ⟨S256x512, .f32⟩
  | 38 => ⟨S1024x512, .f32⟩
  | 39 => ⟨S1024x512, .i1⟩
  | 40 => ⟨S1024x512, .f32⟩
  | 41 => ⟨S_, .i32⟩
  | 42 => ⟨S1024, .i32⟩
  | 43 => ⟨S1024, .i1⟩
  | 44 => ⟨S1024, .i1⟩
  | 45 => ⟨S1024x1, .i1⟩
  | 46 => ⟨S1x256x512, .bf16⟩
  | 47 => ⟨S256x512, .bf16⟩
  | 48 => ⟨S256x512, .f32⟩
  | 49 => ⟨S1024x512, .f32⟩
  | 50 => ⟨S1024x512, .i1⟩
  | 51 => ⟨S1024x512, .f32⟩
  | 52 => ⟨S_, .i32⟩
  | 53 => ⟨S1024, .i32⟩
  | 54 => ⟨S1024, .i1⟩
  | 55 => ⟨S1024, .i1⟩
  | 56 => ⟨S1024x1, .i1⟩
  | 57 => ⟨S1x256x512, .bf16⟩
  | 58 => ⟨S256x512, .bf16⟩
  | 59 => ⟨S256x512, .f32⟩
  | 60 => ⟨S1024x512, .f32⟩
  | 61 => ⟨S1024x512, .i1⟩
  | 62 => ⟨S1024x512, .f32⟩
  | 63 => ⟨S_, .i32⟩
  | 64 => ⟨S1024, .i32⟩
  | 65 => ⟨S1024, .i1⟩
  | 66 => ⟨S1024, .i1⟩
  | 67 => ⟨S1024x1, .i1⟩
  | 68 => ⟨S1x256x512, .bf16⟩
  | 69 => ⟨S256x512, .bf16⟩
  | 70 => ⟨S256x512, .f32⟩
  | 71 => ⟨S1024x512, .f32⟩
  | 72 => ⟨S1024x512, .i1⟩
  | 73 => ⟨S1024x512, .f32⟩
  | _ => ⟨S1024x256, .bf16⟩

abbrev hbmTy (i : Nat) : BufTy := match i / 128 with
  | 0 => hbmTy0_0 i
  | 1 => hbmTy0_1 i
  | _ => ⟨S1024x256, .bf16⟩

abbrev bufTy : (tb : Table) → Fin (tcTables nBuf tb) → BufTy
  | .hbm, ⟨i, _⟩ => hbmTy i
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_v27 : Ref sig .tc := ⟨.hbm, 36, rfl⟩
abbrev main_c_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call1_v0 : Ref sig .tc := ⟨.hbm, 46, rfl⟩
abbrev main_v36 : Ref sig .tc := ⟨.hbm, 47, rfl⟩
abbrev main_c_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call2_v0 : Ref sig .tc := ⟨.hbm, 57, rfl⟩
abbrev main_v45 : Ref sig .tc := ⟨.hbm, 58, rfl⟩
abbrev main_c_4 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_call3_v0 : Ref sig .tc := ⟨.hbm, 68, rfl⟩
abbrev main_v54 : Ref sig .tc := ⟨.hbm, 69, rfl⟩
abbrev main_c_5 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_call4_v0 : Ref sig .tc := ⟨.hbm, 79, rfl⟩
abbrev main_v63 : Ref sig .tc := ⟨.hbm, 80, rfl⟩
abbrev main_c_6 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_call5_v0 : Ref sig .tc := ⟨.hbm, 90, rfl⟩
abbrev main_v72 : Ref sig .tc := ⟨.hbm, 91, rfl⟩
abbrev main_c_7 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_call6_v0 : Ref sig .tc := ⟨.hbm, 101, rfl⟩
abbrev main_v81 : Ref sig .tc := ⟨.hbm, 102, rfl⟩
abbrev main_c_8 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_call7_v0 : Ref sig .tc := ⟨.hbm, 112, rfl⟩
abbrev main_v90 : Ref sig .tc := ⟨.hbm, 113, rfl⟩
abbrev main_c_9 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_call8_v0 : Ref sig .tc := ⟨.hbm, 123, rfl⟩
abbrev main_v99 : Ref sig .tc := ⟨.hbm, 124, rfl⟩
abbrev main_c_10 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_call9_v0 : Ref sig .tc := ⟨.hbm, 134, rfl⟩
abbrev main_v108 : Ref sig .tc := ⟨.hbm, 135, rfl⟩
abbrev main_c_11 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_call10_v0 : Ref sig .tc := ⟨.hbm, 145, rfl⟩
abbrev main_v117 : Ref sig .tc := ⟨.hbm, 146, rfl⟩
abbrev main_c_12 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_call11_v0 : Ref sig .tc := ⟨.hbm, 156, rfl⟩
abbrev main_v126 : Ref sig .tc := ⟨.hbm, 157, rfl⟩
abbrev main_c_13 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_call12_v0 : Ref sig .tc := ⟨.hbm, 167, rfl⟩
abbrev main_v135 : Ref sig .tc := ⟨.hbm, 168, rfl⟩
abbrev main_c_14 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_call13_v0 : Ref sig .tc := ⟨.hbm, 178, rfl⟩
abbrev main_v144 : Ref sig .tc := ⟨.hbm, 179, rfl⟩
abbrev main_c_15 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_call14_v0 : Ref sig .tc := ⟨.hbm, 189, rfl⟩
abbrev main_v153 : Ref sig .tc := ⟨.hbm, 190, rfl⟩
abbrev main_c_16 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_call15_v0 : Ref sig .tc := ⟨.hbm, 200, rfl⟩
abbrev main_v162 : Ref sig .tc := ⟨.hbm, 201, rfl⟩

abbrev nD : Nat := 1
abbrev τ : Topo := Topo.v7x

variable {F : FTy → Type} [FloatOps F]
-- ==== Proof.Contents.lean ====
/-
What every buffer of the kernel holds, stated once: the rotation of the four devices, the gate
array each device computes, the partial products ("slabs") it sends, and the rows it returns.
Every definition takes the three staged operands (tokens, routes, the device's own experts) as
plain functions and is written over any float values.
-/
module

public import proofs.«01_k».proof.Proof.Gen.KernelIdeal
public import proofs.«01_k».proof.Proof.Gen.KernelIdeal.Skeleton
public import Idealize.ShloMosaic.Lib.VecWindow
public import Idealize.ShloMosaic.Lib.ValueIdxCore

@[expose] public section

noncomputable section

namespace Cert.Moe

open Cert.KernelIdeal Cert.KernelIdeal.Gen
open Idealize.ShloMosaic Idealize.ShloMosaic.TcCoe
open Idealize.ShloMosaic.ValueIdx (ix2)

variable {F : FTy → Type} [FloatOps F]

/-! ## Which device talks to which -/

/-- The device `n` places after `c` on the ring of four. -/
def sh (c : Dev nD) (n : ℕ) : Dev nD := ⟨(c.val + n) % 4, Nat.mod_lt _ (by decide)⟩

/-- How far ahead the receiver of send slot `i` sits. -/
def off (i : Fin 6) : ℕ := match i with
  | ⟨0, _⟩ => 2 | ⟨1, _⟩ => 2 | ⟨2, _⟩ => 1 | ⟨3, _⟩ => 1 | ⟨4, _⟩ => 3 | ⟨_ + 5, _⟩ => 3

/-- The device send slot `i` of device `c` is copied to. -/
def tgt (c : Dev nD) (i : Fin 6) : Dev nD := sh c (off i)

/-- The receive slot send slot `i` lands in. -/
def land (i : Fin 6) : Fin 6 := ⟨(i.val + 2) % 6, Nat.mod_lt _ (by decide)⟩

/-- The send slot that lands in receive slot `r`. -/
def unland (r : Fin 6) : Fin 6 := ⟨(r.val + 4) % 6, Nat.mod_lt _ (by decide)⟩

/-- The device whose copy lands in receive slot `r` of device `c`. -/
def src (c : Dev nD) (r : Fin 6) : Dev nD := sh c (r.val / 2 + 1)

/-- Which half of a device's 256 rows slot `i` carries. -/
def half (i : Fin 6) : Fin 2 := ⟨i.val % 2, Nat.mod_lt _ (by decide)⟩

theorem unland_land (i : Fin 6) : unland (land i) = i := by revert i; decide
theorem land_unland (i : Fin 6) : land (unland i) = i := by revert i; decide
theorem half_unland (i : Fin 6) : half (unland i) = half i := by revert i; decide
theorem src_tgt (c : Dev nD) (i : Fin 6) : src (tgt c i) (land i) = c := by revert c i; decide
theorem tgt_src (c : Dev nD) (r : Fin 6) : tgt (src c r) (unland r) = c := by revert c r; decide
theorem sh_zero (c : Dev nD) : sh c 0 = c := by revert c; decide

/-! ## The gate array -/

section Gate

variable (rt : Vec F S1024x1 .i32)

/-- The device's index along the mesh, as the kernel computes it. -/
abbrev word (c : Dev nD) : BitVec 32 := Scalar.remsi (Scalar.divsi (Dev.word c) 1#32) 4#32
abbrev lanes16 : IVec S256x16 32 := iota .tc S256x16 32 [1] iota_S256x16_d1_w32
abbrev lanes4 : IVec S256x4 32 := iota .tc S256x4 32 [1] iota_S256x4_d1_w32

/-- How often each expert occurs in the first one, two, three chunks of 256 tokens. -/
abbrev seen1 : FVec F S1x16 .f32 := k0_pay12 (F := F) (k0_pay3 rt) lanes16 k0_pay5 (k0_pay7 rt)
abbrev seen2 : FVec F S1x16 .f32 := k0_pay17 (F := F) (k0_pay3 rt) lanes16 (seen1 rt)

/-- The gates of the four chunks of 256 tokens. -/
def gate0 (c : Dev nD) : FVec F S256x4 .bf16 := k0_pay9 (word c) lanes4 k0_pay4 k0_pay5 (k0_pay6 rt) (k0_pay7 rt)
def gate1 (c : Dev nD) : FVec F S256x4 .bf16 :=
  k0_pay14 (word c) lanes4 (k0_pay10 (k0_pay3 rt)) (k0_pay13 (k0_pay3 rt) lanes16 k0_pay4 k0_pay5 (k0_pay7 rt))
def gate2 (c : Dev nD) : FVec F S256x4 .bf16 := k0_pay18 (word c) (k0_pay3 rt) lanes16 lanes4 k0_pay4 (seen1 rt)
def gate3 (c : Dev nD) : FVec F S256x4 .bf16 := k0_pay19 (word c) (k0_pay3 rt) lanes16 lanes4 k0_pay4 (seen2 rt)

/-- Four chunks of 256 rows one under the other. -/
def stack4 (g0 g1 g2 g3 : S256x4.Idx → Elt F .bf16) : S1024x4.Idx → Elt F .bf16 := fun i =>
  let y : S256x4.Idx := ix2 ⟨(i 0).val % 256, Nat.mod_lt _ (by decide)⟩ (i 1)
  if (i 0).val < 256 then g0 y else if (i 0).val < 512 then g1 y else if (i 0).val < 768 then g2 y else g3 y

theorem put_rows4 (o : ℕ) (ho : o % 256 = 0) (h : S1024x4.Idx → Elt F .bf16) (w : S256x4.Idx → Elt F .bf16) (i : S1024x4.Idx) :
    VecWindow.put (s := S1024x4) h ![o, 0] S256x4.size w i
      = if o ≤ (i 0).val ∧ (i 0).val < o + 256 then w (ix2 ⟨(i 0).val % 256, Nat.mod_lt _ (by decide)⟩ (i 1)) else h i := by
  have h1 : (i 1).val < 4 := (i 1).isLt
  unfold VecWindow.put
  by_cases hc : o ≤ (i 0).val ∧ (i 0).val < o + 256
  · have hd : ∀ a, (![o, 0] : Fin 2 → ℕ) a ≤ (i a).val ∧ (i a).val < (![o, 0] : Fin 2 → ℕ) a + S256x4.size a := by
      intro a; fin_cases a
      · exact hc
      · exact ⟨Nat.zero_le _, by show (i 1).val < 0 + 4; omega⟩
    rw [if_pos hc, dif_pos hd]
    refine congrArg w (funext fun a => Fin.ext ?_)
    fin_cases a
    · show (i 0).val - o = (i 0).val % 256; omega
    · show (i 1).val - 0 = (i 1).val; omega
  · rw [if_neg hc, dif_neg (fun hd => hc (hd 0))]

/-- Storing four chunks one after the other stacks them, whatever was there. -/
theorem stack4_put (g0 g1 g2 g3 : S256x4.Idx → Elt F .bf16) (f : S1024x4.Idx → Elt F .bf16) :
    VecWindow.put (s := S1024x4) (VecWindow.put (s := S1024x4) (VecWindow.put (s := S1024x4) (VecWindow.put (s := S1024x4) f
      ![0, 0] S256x4.size g0) ![256, 0] S256x4.size g1) ![512, 0] S256x4.size g2) ![768, 0] S256x4.size g3
      = stack4 g0 g1 g2 g3 := by
  funext i
  have h0 : (i 0).val < 1024 := (i 0).isLt
  rw [put_rows4 768 (by decide), put_rows4 512 (by decide), put_rows4 256 (by decide), put_rows4 0 (by decide)]
  unfold stack4
  simp only
  split_ifs <;> first | rfl | omega

/-- The gate of every token, chunk by chunk. -/
def gates (c : Dev nD) : S1024x4.Idx → Elt F .bf16 := stack4 (gate0 rt c) (gate1 rt c) (gate2 rt c) (gate3 rt c)

end Gate

/-! ## The slabs -/

/-- The 128 rows at row `256 · d + 128 · h` of an array of 1024 rows are inside it. -/
theorem rows_inb (d : Dev nD) (h : Fin 2) : ∀ a, (![256 * d.val + 128 * h.val, 0] : Fin 2 → ℕ) a + S128x256.size a ≤ S1024x256.size a := by
  revert d h; decide
theorem rows4_inb (d : Dev nD) (h : Fin 2) : ∀ a, (![256 * d.val + 128 * h.val, 0] : Fin 2 → ℕ) a + S128x4.size a ≤ S1024x4.size a := by
  revert d h; decide

/-- Half `h` of the rows of device `d`: of the tokens, and of a gate array. -/
def xRows (x : Vec F S1024x256 .bf16) (d : Dev nD) (h : Fin 2) : Vec F S128x256 .bf16 :=
  VecWindow.window (s := S1024x256) x ![256 * d.val + 128 * h.val, 0] S128x256.size (rows_inb d h)
def gRows (g : Vec F S1024x4 .bf16) (d : Dev nD) (h : Fin 2) : Vec F S128x4 .bf16 :=
  VecWindow.window (s := S1024x4) g ![256 * d.val + 128 * h.val, 0] S128x4.size (rows4_inb d h)

/-- The product of the gated rows with the device's four experts, at `f32`. -/
def prodOf (w : FVec F S1024x512 .bf16) (x : Vec F S128x256 .bf16) (g : Vec F S128x4 .bf16) : FVec F S128x512 .f32 := k0_pay40 w x g

/-- The same rounded, as it is sent. -/
def slabOf (w : FVec F S1024x512 .bf16) (x : Vec F S128x256 .bf16) (g : Vec F S128x4 .bf16) : Vec F S1x128x512 .bf16 :=
  k0_pay23 w (k0_pay21 x) g (k0_pay22 g)

section Variants
variable (w : FVec F S1024x512 .bf16) (x : Vec F S128x256 .bf16) (g : Vec F S128x4 .bf16)

theorem slab_a : k0_pay28 w (k0_pay24 x) g (k0_pay25 x g) (k0_pay26 x g) (k0_pay27 g) = slabOf w x g := rfl
theorem slab_b : k0_pay33 w (k0_pay29 x) g (k0_pay30 x g) (k0_pay31 x g) (k0_pay32 g) = slabOf w x g := rfl
theorem slab_c : k0_pay35 w (k0_pay34 x g) = slabOf w x g := rfl
theorem slab_d : k0_pay37 w (k0_pay36 x g) (constant S128x512 .f32 0x00000000#32) = slabOf w x g := rfl
theorem slab_e : k0_pay39 (k0_pay38 w x g) = slabOf w x g := rfl
theorem prod_a : k0_pay42 w (k0_pay41 x) g = prodOf w x g := rfl

end Variants

/-! ## What each device holds and returns -/

/-- A device's three staged operands. -/
structure Ops (F : FTy → Type) where
  x : Vec F S1024x256 .bf16
  rt : Vec F S1024x1 .i32
  w : Vec F S4x256x512 .bf16

variable (V : Dev nD → Ops F)

/-- What device `c` writes into send slot `i`. -/
def slab (c : Dev nD) (i : Fin 6) : Vec F S1x128x512 .bf16 :=
  slabOf (k0_pay20 (V c).w) (xRows (V c).x (tgt c i) (half i)) (gRows (gates (V c).rt c) (tgt c i) (half i))

/-- What lands in receive slot `r` of device `c`. -/
def landed (c : Dev nD) (r : Fin 6) : Vec F S1x128x512 .bf16 := slab V (src c r) (unland r)

theorem landed_tgt (c : Dev nD) (i : Fin 6) : landed V (tgt c i) (land i) = slab V c i := by
  unfold landed; rw [src_tgt, unland_land]

/-- The device's own product for half `h` of its rows. -/
def own (c : Dev nD) (h : Fin 2) : FVec F S128x512 .f32 :=
  prodOf (k0_pay20 (V c).w) (xRows (V c).x c h) (gRows (gates (V c).rt c) c h)

/-- The two halves of the result block. -/
def out0 (c : Dev nD) : FVec F S128x512 .f32 :=
  k0_pay1 (k0_pay43 (own V c 0) (landed V c 0)) (k0_pay44 (landed V c 2)) (landed V c 4)
def out1 (c : Dev nD) : FVec F S128x512 .f32 := k0_pay2 (own V c 1) (landed V c 1) (landed V c 3) (landed V c 5)

/-- Two halves of 128 rows one under the other. -/
def stack2 (g0 g1 : S128x512.Idx → Elt F .f32) : S256x512.Idx → Elt F .f32 := fun i =>
  let y : S128x512.Idx := ix2 ⟨(i 0).val % 128, Nat.mod_lt _ (by decide)⟩ (i 1)
  if (i 0).val < 128 then g0 y else g1 y

theorem put_rows2 (o : ℕ) (ho : o % 128 = 0) (h : S256x512.Idx → Elt F .f32) (w : S128x512.Idx → Elt F .f32) (i : S256x512.Idx) :
    VecWindow.put (s := S256x512) h ![o, 0] S128x512.size w i
      = if o ≤ (i 0).val ∧ (i 0).val < o + 128 then w (ix2 ⟨(i 0).val % 128, Nat.mod_lt _ (by decide)⟩ (i 1)) else h i := by
  have h1 : (i 1).val < 512 := (i 1).isLt
  unfold VecWindow.put
  by_cases hc : o ≤ (i 0).val ∧ (i 0).val < o + 128
  · have hd : ∀ a, (![o, 0] : Fin 2 → ℕ) a ≤ (i a).val ∧ (i a).val < (![o, 0] : Fin 2 → ℕ) a + S128x512.size a := by
      intro a; fin_cases a
      · exact hc
      · exact ⟨Nat.zero_le _, by show (i 1).val < 0 + 512; omega⟩
    rw [if_pos hc, dif_pos hd]
    refine congrArg w (funext fun a => Fin.ext ?_)
    fin_cases a
    · show (i 0).val - o = (i 0).val % 128; omega
    · show (i 1).val - 0 = (i 1).val; omega
  · rw [if_neg hc, dif_neg (fun hd => hc (hd 0))]

/-- Storing two halves one after the other stacks them, whatever was there. -/
theorem stack2_put (g0 g1 : S128x512.Idx → Elt F .f32) (f : S256x512.Idx → Elt F .f32) :
    VecWindow.put (s := S256x512) (VecWindow.put (s := S256x512) f ![0, 0] S128x512.size g0) ![128, 0] S128x512.size g1
      = stack2 g0 g1 := by
  funext i
  have h0 : (i 0).val < 256 := (i 0).isLt
  rw [put_rows2 128 (by decide), put_rows2 0 (by decide)]
  unfold stack2
  simp only
  split_ifs <;> first | rfl | omega

/-- The device's block of the result. -/
def out (c : Dev nD) : S256x512.Idx → Elt F .f32 := stack2 (out0 V c) (out1 V c)

end Cert.Moe

end
-- ==== Proof.Protocol.lean ====
/-
The protocol of the kernel: its thirteen semaphores on each device, who credits each of them by how
much, what comes with every credit, and in which order a device may wait.

* The barrier semaphore of device `c` gets one unit from each of the other three. The unit from the
  device `3 - k` places ahead brings that device's receive slots `2 k` and `2 k + 1`, the two slots
  `c` is about to write there.
* Send semaphore `i` of `c` gets the bytes of one slot when `c`'s send slot `i` has been read; the slot comes back.
* Receive semaphore `r` of `c` gets the bytes of one slot when the copy from `src c r` has landed;
  the slot comes with the slab the sender computed.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one copy of the rounds algebra for the staging cells, one for the thirteen. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The slots -/

abbrev xM : Memref sig .tc .vmem S1024x256 .bf16 := Memref.whole cc0_stg0_0
abbrev tM : Memref sig .tc .vmem S1024x1 .i32 := Memref.whole cc0_stg1_0
abbrev wM : Memref sig .tc .vmem S4x256x512 .bf16 := Memref.whole cc0_stg2_0
abbrev oM : Memref sig .tc .vmem S256x512 .f32 := Memref.whole cc0_stg3_0
abbrev gM : Memref sig .tc .vmem S1024x4 .bf16 := Memref.whole cc0_scratch0
abbrev sM : Memref sig .tc .vmem S6x128x512 .bf16 := Memref.whole cc0_scratch1
abbrev rM : Memref sig .tc .vmem S6x128x512 .bf16 := Memref.whole cc0_scratch2

theorem slot_inb (i : Fin 6) : ∀ a, (![i.val, 0, 0] : Fin 3 → ℕ) a + S1x128x512.size a ≤ S6x128x512.size a := by
  revert i; decide

/-- Slot `i` of a buffer of six slots, as a rectangle, and the slot itself. -/
abbrev rct (i : Fin 6) : Rect S6x128x512 := Rect.unit (s := S6x128x512) ![i.val, 0, 0] S1x128x512.size (slot_inb i)
abbrev sSlot (i : Fin 6) : Memref sig .tc .vmem S1x128x512 .bf16 := sM.slice (rct i) (fun _ => rfl)
abbrev rSlot (i : Fin 6) : Memref sig .tc .vmem S1x128x512 .bf16 := rM.slice (rct i) (fun _ => rfl)
/-- The same with the axis of extent one dropped: the ends of the copies. -/
abbrev sEnd (i : Fin 6) : Memref sig .tc .vmem S128x512 .bf16 := (sSlot i).squeeze S128x512 squeezes_S1x128x512_S128x512
abbrev rEnd (i : Fin 6) : Memref sig .tc .vmem S128x512 .bf16 := (rSlot i).squeeze S128x512 squeezes_S1x128x512_S128x512

/-! ## The semaphores -/

theorem sem_inb (i : Fin 6) : ∀ a, (![i.val] : Fin 1 → ℕ) a + S1.size a ≤ S6.size a := by revert i; decide

abbrev barS : Sem sig := (SemArray.scalar (sig.barrier 0 rfl) : Sems sig S_).sem
abbrev sSem (i : Fin 6) : DmaSem sig :=
  ((cc0_scratch3.slice (Rect.unit (s := S6) ![i.val] S1.size (sem_inb i))).squeeze S_ squeezes_S1_S_).sem
abbrev rSem (i : Fin 6) : DmaSem sig :=
  ((cc0_scratch4.slice (Rect.unit (s := S6) ![i.val] S1.size (sem_inb i))).squeeze S_ squeezes_S1_S_).sem

/-- The thirteen semaphores of a device: the barrier, six send, six receive semaphores. -/
abbrev CI : Type := Option (Bool × Fin 6)
abbrev bar : CI := none
abbrev snd (i : Fin 6) : CI := some (false, i)
abbrev rcv (i : Fin 6) : CI := some (true, i)

/-- The twelve the kernel allocates, and all of them. -/
def osem : Bool × Fin 6 → SemLoc sig
  | (false, i) => .dma (sSem i)
  | (true, i) => .dma (rSem i)
def csem : CI → SemLoc sig
  | none => .reg barS
  | some k => osem k

theorem csem_bar : csem bar = .reg barS := rfl
theorem csem_snd (i : Fin 6) : csem (snd i) = .dma (sSem i) := rfl
theorem csem_rcv (i : Fin 6) : csem (rcv i) = .dma (rSem i) := rfl

def allCI : List CI := [bar, snd 0, snd 1, snd 2, snd 3, snd 4, snd 5, rcv 0, rcv 1, rcv 2, rcv 3, rcv 4, rcv 5]
theorem mem_allCI (k : CI) : k ∈ allCI := by revert k; decide
theorem nodup_allCI : allCI.Nodup := by decide

/-- Which of the thirteen a semaphore is. -/
def role (s : SemLoc sig) : Option CI := allCI.find? fun k => decide (csem k = s)
theorem role_csem (k : CI) : role (csem k) = some k := by revert k; decide +kernel

theorem csem_injective : Function.Injective csem := fun a b h => by
  have := role_csem a
  rw [h, role_csem b] at this
  exact (Option.some.inj this).symm

abbrev cell (c : Dev nD) (k : CI) : GSem nD τ sig := ((c : Thread nD τ), csem k)
theorem cell_inj {a b : Dev nD} {k l : CI} (h : cell a k = cell b l) : a = b ∧ k = l := by
  refine ⟨congrArg (fun g : GSem nD τ sig => g.1.1) h, csem_injective (congrArg Prod.snd h)⟩

/-! ## What comes with the credits -/

section Payloads

/-- A receive slot at any contents. -/
def anyR (c : Dev nD) (r : Fin 6) : sProp 𝕄 := iprop(∃ X : Vec F S1x128x512 .bf16, owns (c : Thread nD τ) (rSlot r) fullShare X)
def anyS (c : Dev nD) (i : Fin 6) : sProp 𝕄 := iprop(∃ X : Vec F S1x128x512 .bf16, owns (c : Thread nD τ) (sSlot i) fullShare X)

variable (V : Dev nD → Ops F)

def sendPay (c : Dev nD) (i : Fin 6) : sProp 𝕄 := owns (c : Thread nD τ) (sSlot i) fullShare (slab V c i)
def recvPay (c : Dev nD) (r : Fin 6) : sProp 𝕄 := owns (c : Thread nD τ) (rSlot r) fullShare (landed V c r)

/-- The first and the second slot of a pair. -/
def lo (k : Fin 3) : Fin 6 := ⟨2 * k.val, by omega⟩
def hi (k : Fin 3) : Fin 6 := ⟨2 * k.val + 1, by omega⟩

/-- What the barrier's unit `k` brings to `c`: the two receive slots it will write on the device `3 - k` places ahead. -/
def barPay (c : Dev nD) (k : Fin 3) : sProp 𝕄 := iprop(anyR (F := F) (sh c (3 - k.val)) (lo k) ∗ anyR (F := F) (sh c (3 - k.val)) (hi k))

def pay (c : Dev nD) (d : Fin 3) : CI → sProp 𝕄
  | none => barPay c d
  | some (false, i) => sendPay V c i
  | some (true, i) => recvPay V c i

instance pay_storable (c : Dev nD) (d : Fin 3) (k : CI) : BI.Storable (upEmb : UEmb _ 𝕄) (pay V c d k) := by
  rcases k with _ | ⟨_ | _, i⟩
  · show BI.Storable upEmb (barPay (F := F) c d); unfold barPay anyR; infer_instance
  · show BI.Storable upEmb (sendPay V c i); unfold sendPay; infer_instance
  · show BI.Storable upEmb (recvPay V c i); unfold recvPay; infer_instance

end Payloads

/-! ## The schedule -/

/-- The credit of one slot. -/
abbrev N : ℕ := (rEnd 0).view.dmaCredit
theorem N_pos : 0 < N := View.dmaCredit_pos _ (by decide)

def dut : CI → Finset (Fin 3)
  | none => Finset.univ
  | some _ => {0}
def amt : CI → ℕ
  | none => 1
  | some _ => N
theorem amt_pos (k : CI) : 0 < amt k := by
  rcases k with _ | k
  · exact Nat.one_pos
  · exact N_pos

variable (V : Dev nD → Ops F)

/-- One round: who credits each semaphore by how much and what comes with it. -/
def Rd : Rounds.Schedule (GSem nD τ sig) (Fin 3) 𝕄 where
  duties g r := if r = 0 ∧ g.1.2 = .tc then (match role g.2 with | none => ∅ | some k => dut k) else ∅
  unitless _ := False
  amount g _ _ := match role g.2 with | none => 1 | some k => amt k
  payload g _ d := match role g.2 with | none => iprop(emp) | some k => pay V g.1.1 d k
  amount_pos g _ _ _ := by
    split
    · exact Nat.one_pos
    · exact amt_pos _

instance Rd_payload_storable (g : GSem nD τ sig) (r : ℕ) (d : Fin 3) : BI.Storable (upEmb : UEmb _ 𝕄) ((Rd V).payload g r d) := by
  show BI.Storable upEmb (match role g.2 with | none => iprop(emp) | some k => pay V g.1.1 d k)
  split <;> infer_instance

theorem duties_cell (c : Dev nD) (k : CI) : (Rd V).duties (cell c k) 0 = dut k := by
  dsimp only [Rd]; rw [if_pos ⟨rfl, rfl⟩, role_csem]
theorem amount_cell (c : Dev nD) (k : CI) (d : Fin 3) : (Rd V).amount (cell c k) 0 d = amt k := by
  dsimp only [Rd]; rw [role_csem]
theorem payload_cell (c : Dev nD) (k : CI) (d : Fin 3) : (Rd V).payload (cell c k) 0 d = pay V c d k := by
  dsimp only [Rd]; rw [role_csem]
theorem duties_later (g : GSem nD τ sig) : ∀ r, 1 ≤ r → (Rd V).duties g r = ∅ :=
  fun r hr => by dsimp only [Rd]; exact if_neg fun h => by omega

theorem expect_bar (c : Dev nD) : (Rd V).expect (cell c bar) 0 = 3 := by
  unfold Schedule.expect Schedule.amountOf
  rw [duties_cell, Finset.sum_congr rfl fun d _ => amount_cell V c bar d]; rfl
theorem expect_dma (c : Dev nD) (k : Bool × Fin 6) : (Rd V).expect (cell c (some k)) 0 = N := by
  unfold Schedule.expect Schedule.amountOf
  rw [duties_cell]; show ∑ d ∈ ({0} : Finset (Fin 3)), _ = _
  rw [Finset.sum_singleton, amount_cell]; rfl

theorem rest_bar (c : Dev nD) : bigSep ((Rd V).duties (cell c bar) 0 \ ∅) (fun d => (Rd V).payload (cell c bar) 0 d)
    = iprop(barPay (F := F) c 0 ∗ barPay (F := F) c 1 ∗ barPay (F := F) c 2) := by
  rw [Finset.sdiff_empty, duties_cell, bigSep_congr fun d _ => payload_cell V c bar d]
  exact bigSep_univ_eq_bigSepL [0, 1, 2] (by decide) (by decide) _
theorem rest_dma (c : Dev nD) (k : Bool × Fin 6) : bigSep ((Rd V).duties (cell c (some k)) 0 \ ∅) (fun d => (Rd V).payload (cell c (some k)) 0 d)
    = pay V c 0 (some k) := by
  rw [Finset.sdiff_empty, duties_cell]; show bigSep ({0} : Finset (Fin 3)) _ = _
  rw [bigSep_singleton, payload_cell]

/-! ## What each device owes, and the order of the waits -/

/-- The copies still to be issued, `n` of them. -/
def owesS (c : Dev nD) : ℕ → CellTallies nD τ sig Unit
  | 0 => 0
  | n + 1 => owesS c n + tallyAt (cell (tgt c ⟨5 - n, by omega⟩) (rcv (land ⟨5 - n, by omega⟩))) () N
/-- With the barrier's signals still to be sent, `n` of them. -/
def owesB (c : Dev nD) : ℕ → CellTallies nD τ sig Unit
  | 0 => owesS c 6
  | n + 1 => owesB c n + tallyAt (cell (sh c (3 - n)) bar) () 1
/-- What device `c` owes at the start. -/
def O₀ (c : Dev nD) : CellTallies nD τ sig Unit := owesB c 3

def L (g : GSem nD τ sig) : Finset Unit := if g.1.2 = .tc then {()} else ∅
/-- The order of the waits: send semaphores and staging first, then the barrier, then the receive semaphores. -/
def lv (g : GSem nD τ sig) (_ : Unit) : ℕ := match role g.2 with
  | some none => 1
  | some (some (true, _)) => 2
  | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (cell c bar) () = 1 := by unfold lv; rw [role_csem]
theorem lv_rcv (c : Dev nD) (i : Fin 6) : lv (cell c (rcv i)) () = 2 := by unfold lv; rw [role_csem]

theorem owesS_pos {c : Dev nD} {n : ℕ} {g : GSem nD τ sig} {u : Unit} (h : 0 < owesS c n g u) : ∃ d i, g = cell d (rcv i) := by
  induction n with
  | zero => exact absurd h (Nat.lt_irrefl 0)
  | succ n ih =>
    unfold owesS at h
    rw [Pi.add_apply, Finsupp.add_apply, tallyAt_apply] at h
    by_cases hc : g = cell (tgt c ⟨5 - n, by omega⟩) (rcv (land ⟨5 - n, by omega⟩)) ∧ u = ()
    · exact ⟨_, _, hc.1⟩
    · rw [if_neg hc] at h; exact ih h

theorem owesB_pos {c : Dev nD} {n : ℕ} {g : GSem nD τ sig} {u : Unit} (h : 0 < owesB c n g u) :
    (∃ d i, g = cell d (rcv i)) ∨ ∃ d, g = cell d bar := by
  induction n with
  | zero => exact .inl (owesS_pos h)
  | succ n ih =>
    unfold owesB at h
    rw [Pi.add_apply, Finsupp.add_apply, tallyAt_apply] at h
    by_cases hc : g = cell (sh c (3 - n)) bar ∧ u = ()
    · exact .inr ⟨_, hc.1⟩
    · rw [if_neg hc] at h; exact ih h

/-- A staging wait is first in the order: it may happen while anything is owed. -/
theorem mayWait_stage (c : Dev nD) (q : DmaSem sig) (hq : role (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owesB_pos hg with ⟨d, i, rfl⟩ | ⟨d, rfl⟩ <;> exact Finset.mem_singleton_self _)
      (fun p hp => by rw [Finset.mem_singleton.mp hp]; dsimp only [lv]; rw [hq])
      (fun g u hg => by
        rcases owesB_pos hg with ⟨d, i, rfl⟩ | ⟨d, rfl⟩
        · rw [lv_rcv]; decide
        · rw [lv_bar]; decide)
  · rw [MayWait_zero]; iintro -; iempintro

/-- The barrier wait comes before every receive wait: it may happen while copies are owed. -/
theorem mayWait_bar (c : Dev nD) : (levAts L lv : sProp 𝕄) ⊢ MayWait (c : Thread nD τ) (.reg barS) () (owesS c 6) :=
  MayOwe.of_cut (L := L) (lev := lv) 1 (fun p hp => by rw [Finset.mem_singleton.mp hp, L_tc]; exact Finset.mem_singleton_self _)
    (fun g u hg => by obtain ⟨d, i, rfl⟩ := owesS_pos hg; exact Finset.mem_singleton_self _)
    (fun p hp => by rw [Finset.mem_singleton.mp hp]; exact le_of_eq (lv_bar c))
    (fun g u hg => by obtain ⟨d, i, rfl⟩ := owesS_pos hg; rw [lv_rcv]; decide)

end Cert.Moe

end
-- ==== Proof.Steps.lean ====
/-
The single steps of the kernel as rules: a load and a store through a memref owned at known
contents, a signal to a peer's barrier, the barrier wait, a copy into a peer's receive slot, and
the waits on the send and the receive semaphores. Each is stated once, at a symbolic device.
-/
module

public import proofs.«01_k».proof.Proof.Protocol

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Memory

variable (c : Dev nD) {s : Shape} {e : EltTy} {α : Type}

/-- A load through a unit-stride rectangle of an owned memref reads a window of its contents. -/
theorem owns_load {m : Memref sig .tc .vmem s e} {off off' size : Fin s.rank → ℕ} {inb : ∀ a, off a + size a ≤ s.size a}
    {hl : m.view.LoadsAt (Rect.unit off size inb).toLoadRect} {k : ((Rect.unit off size inb).toLoadRect.shape.Idx → Elt F e) → Prog (TpuEff nD τ sig (Elt F) Λ₀ .tc) α} {Q : α → sProp 𝕄}
    (h : off = off') (inb' : ∀ a, off' a + size a ≤ s.size a) (X : s.Idx → Elt F e) :
    (owns (c : Thread nD τ) m fullShare X : sProp 𝕄)
      ⊢ iprop((owns (c : Thread nD τ) m fullShare X -∗ run c (k (VecWindow.window X off' size inb')) Q)
        -∗ run c (.op (.load m (Rect.unit off size inb).toLoadRect hl) k) Q) := by
  subst h
  unfold owns
  iintro ⟨%f, %hf, H⟩ Hk
  iapply (wp_load 𝒱₀ (c : Thread nD τ) none Set.univ (m := m) (View.setOn_subset_set _ _)) $$ H
  iintro H
  rw [View.readAt_unit m.view f inb rfl inb, hf]
  iapply Hk
  iexists f
  isplitr; · (ipureintro; exact hf)
  iexact H

/-- A load of an owned memref's own sizes reads its contents. -/
theorem owns_load_full {m : Memref sig .tc .vmem s e} {off : Fin s.rank → ℕ} {inb : ∀ a, off a + s.size a ≤ s.size a}
    {hl : m.view.LoadsAt (Rect.unit off s.size inb).toLoadRect} {k : ((Rect.unit off s.size inb).toLoadRect.shape.Idx → Elt F e) → Prog (TpuEff nD τ sig (Elt F) Λ₀ .tc) α} {Q : α → sProp 𝕄}
    (X : s.Idx → Elt F e) :
    (owns (c : Thread nD τ) m fullShare X : sProp 𝕄)
      ⊢ iprop((owns (c : Thread nD τ) m fullShare X -∗ run c (k X) Q)
        -∗ run c (.op (.load m (Rect.unit off s.size inb).toLoadRect hl) k) Q) := by
  unfold owns
  iintro ⟨%f, %hf, H⟩ Hk
  iapply (wp_load 𝒱₀ (c : Thread nD τ) none Set.univ (m := m) (View.setOn_subset_set _ _)) $$ H
  iintro H
  rw [View.readAt_full m.view f inb, hf]
  iapply Hk
  iexists f
  isplitr; · (ipureintro; exact hf)
  iexact H

/-- A store through a unit-stride rectangle of an owned memref puts the payload there. -/
theorem owns_store {m : Memref sig .tc .vmem s e} {off size : Fin s.rank → ℕ} {inb : ∀ a, off a + size a ≤ s.size a}
    {w : (Rect.unit off size inb).shape.Idx → Elt F e} {hx : (m.access (Rect.unit off size inb)).Stores Finset.univ} {hm}
    {k : PUnit → Prog (TpuEff nD τ sig (Elt F) Λ₀ .tc) α} {Q : α → sProp 𝕄} (X : s.Idx → Elt F e) :
    (owns (c : Thread nD τ) m fullShare X : sProp 𝕄)
      ⊢ iprop((owns (c : Thread nD τ) m fullShare (VecWindow.put X off size w) -∗ run c (k ⟨⟩) Q)
        -∗ run c (.op (.store m (Rect.unit off size inb) w Finset.univ hx hm) k) Q) := by
  unfold owns
  iintro ⟨%f, %hf, H⟩ Hk
  iapply (wp_store 𝒱₀ (c : Thread nD τ) none Set.univ (m := m) (r := Rect.unit off size inb) (Mk := Finset.univ) (f := f)
    ((View.setOn_subset_set _ _).trans (View.set_slice_subset _ _))) $$ H
  iintro H
  iapply Hk
  iexists _
  isplitr
  · ipureintro
    have := View.read_writes_cons_put m.view f inb w [] rfl
    rw [View.writes_nil, hf] at this
    exact this
  iexact H

/-- A load of one slot of an owned slot. -/
theorem slot_load {m : Memref sig .tc .vmem s e} {r : Rect s} {hr} {hl : m.view.LoadsAt r.toLoadRect}
    {k : (r.toLoadRect.shape.Idx → Elt F e) → Prog (TpuEff nD τ sig (Elt F) Λ₀ .tc) α} {Q : α → sProp 𝕄} (X : r.shape.Idx → Elt F e) :
    (owns (c : Thread nD τ) (m.slice r hr) fullShare X : sProp 𝕄)
      ⊢ iprop((owns (c : Thread nD τ) (m.slice r hr) fullShare X -∗ run c (k X) Q)
        -∗ run c (.op (.load m r.toLoadRect hl) k) Q) := by
  unfold owns
  iintro ⟨%f, %hf, H⟩ Hk
  iapply (wp_load_rect 𝒱₀ (c : Thread nD τ) none Set.univ (m := m) (r := r) (f := f) (Finset.Subset.refl _)) $$ H
  iintro H
  rw [show (m.access r).read (Elt F) f = X from hf]
  iapply Hk
  iexists f
  isplitr; · (ipureintro; exact hf)
  iexact H

/-- A store into an owned slot. -/
theorem slot_store {m : Memref sig .tc .vmem s e} {r : Rect s} {hr} {w : r.shape.Idx → Elt F e} {hx : (m.access r).Stores Finset.univ} {hm}
    {k : PUnit → Prog (TpuEff nD τ sig (Elt F) Λ₀ .tc) α} {Q : α → sProp 𝕄} (X : r.shape.Idx → Elt F e) :
    (owns (c : Thread nD τ) (m.slice r hr) fullShare X : sProp 𝕄)
      ⊢ iprop((owns (c : Thread nD τ) (m.slice r hr) fullShare w -∗ run c (k ⟨⟩) Q)
        -∗ run c (.op (.store m r w Finset.univ hx hm) k) Q) := by
  unfold owns
  iintro ⟨%f, %hf, H⟩ Hk
  iapply (wp_store 𝒱₀ (c : Thread nD τ) none Set.univ (m := m) (r := r) (Mk := Finset.univ) (f := f) (View.setOn_subset_set _ _)) $$ H
  iintro H
  iapply Hk
  iexists ((m.access r).write (Elt F) f w Finset.univ)
  isplitr
  · ipureintro; exact View.read_write_univ (v := m.view.slice r) f w
  iexact H

end Memory

/-! ## The records every device keeps: the invariant of every semaphore, and that its round is open -/

variable (V : Dev nD → Ops F) (K : Dev nD × CI → ℕ)

abbrev kcell (p : Dev nD × CI) : GSem nD τ sig := cell p.1 p.2

def records : sProp 𝕄 :=
  iprop((bigSep Finset.univ fun p : Dev nD × CI => cellInv ER (Rd V) (K p) (kcell p))
    ∗ bigSep Finset.univ fun p : Dev nD × CI => reached ER (kcell p) 0)

instance records_persistent : BI.Persistent (records V K) := by unfold records; infer_instance

theorem inv_at (p : Dev nD × CI) : records V K ⊢ cellInv ER (Rd V) (K p) (kcell p) := by
  unfold records; iintro ⟨#HI, -⟩
  iapply (show (bigSep Finset.univ fun p : Dev nD × CI => (cellInv ER (Rd V) (K p) (kcell p) : sProp 𝕄)) ⊢ cellInv ER (Rd V) (K p) (kcell p) from bigSep_elim (Finset.mem_univ p))
  iexact HI
theorem reached_at (p : Dev nD × CI) : records V K ⊢ reached ER (kcell p) 0 := by
  unfold records; iintro ⟨-, #HI⟩
  iapply (show (bigSep Finset.univ fun p : Dev nD × CI => (reached ER (kcell p) 0 : sProp 𝕄)) ⊢ reached ER (kcell p) 0 from bigSep_elim (Finset.mem_univ p))
  iexact HI

/-- What device `c` owes, whatever it has waited on. -/
def owe (c : Dev nD) (O : CellTallies nD τ sig Unit) : sProp 𝕄 := iprop(∃ W : Waits sig Unit, owes (c : Thread nD τ) O W)

variable (c : Dev nD) {α : Type}

theorem sh_back (k : Fin 3) : sh (sh c (k.val + 1)) (3 - k.val) = c := by revert c k; decide

/-- A signal to the barrier of the device `k + 1` places ahead: two receive slots go with it. -/
theorem step_signal (k : Fin 3) (n : Dev nD) (hn : n = sh c (k.val + 1)) {b : BitVec 32} (hb : b = 1#32)
    {O : CellTallies nD τ sig Unit} {κ : PUnit → Prog (TpuEff nD τ sig (Elt F) Λ₀ .tc) α} {Q : α → sProp 𝕄} :
    iprop(records V K ∗ owe c (O + tallyAt (cell (sh c (k.val + 1)) bar) () 1) ∗ dutyTok ER (cell (sh c (k.val + 1)) bar) 0 k
        ∗ anyR (F := F) c (lo k) ∗ anyR (F := F) c (hi k))
      ⊢ iprop((owe c O -∗ run c (κ ⟨⟩) Q) -∗ run c (.op (.semSignal (n : Thread nD τ) barS b.toInt) κ) Q) := by
  subst hn hb
  unfold owe
  iintro ⟨#HR, ⟨%W, HO⟩, Ht, H1, H2⟩ Hk
  iapply (Rounds.wp_signal 𝒱₀ ER (Rd V) (c : Thread nD τ) none (dst := (sh c (k.val + 1) : Thread nD τ)) (κ := K (sh c (k.val + 1), bar))
      (by rw [show ((sh c (k.val + 1) : Thread nD τ), SemLoc.reg barS) = cell (sh c (k.val + 1)) bar from rfl, duties_cell]; exact Finset.mem_univ k)
      ((amount_cell V (sh c (k.val + 1)) bar k).trans (by decide)) () O rfl)
    $$ [HO Ht H1 H2]
  · isplitr; · iapply (inv_at V K (sh c (k.val + 1), bar)); iexact HR
    isplitl [HO]; · iexact HO
    isplitl [Ht]; · iexact Ht
    isplitl [H1 H2]
    · rw [show ((sh c (k.val + 1) : Thread nD τ), SemLoc.reg barS) = cell (sh c (k.val + 1)) bar from rfl, payload_cell]
      unfold pay barPay; rw [sh_back]
      isplitl [H1] <;> iassumption
    · iapply (reached_at V K (sh c (k.val + 1), bar)); iexact HR
  iintro HO
  iapply Hk
  iexists W; iexact HO

/-- The barrier wait: the six receive slots this device will write come with it. -/
theorem step_bar {b : BitVec 32} (hb : b = 3#32) {κ : PUnit → Prog (TpuEff nD τ sig (Elt F) Λ₀ .tc) α} {Q : α → sProp 𝕄} :
    iprop(records V K ∗ levAts L lv ∗ owe c (owesS c 6) ∗ cred (tallyAt (cell c bar) () 3) ∗ atPos ER (cell c bar) 0 ∅ 0)
      ⊢ iprop(((owe c (owesS c 6) ∗ semVal (cell c bar) 0 ∗ barPay (F := F) c 0 ∗ barPay (F := F) c 1 ∗ barPay (F := F) c 2) -∗ run c (κ ⟨⟩) Q)
        -∗ run c (.op (.semWait barS b.toInt) κ) Q) := by
  subst hb
  unfold owe
  iintro ⟨#HR, #Hlev, ⟨%W, HO⟩, Hc, Hat⟩ Hk
  iapply (Rounds.wp_wait_rest_token 𝒱₀ ER (Rd V) (c : Thread nD τ) none (κ := K (c, bar))
      (wpE_semWait_eq 𝒱₀ (c : Thread nD τ) none Set.univ) (Set.mem_univ _) () (O := owesS c 6) (W := W) (R := 0) (m := 0) (T := ∅)
      (by rw [show ((c : Thread nD τ), SemLoc.reg barS) = cell c bar from rfl, expect_bar]; decide)) $$ [Hc HO Hat]
  · isplitr; · iapply (inv_at V K (c, bar)); iexact HR
    isplitl [Hc]; · iexact Hc
    isplitl [HO]; · iexact HO
    isplitr; · iapply (mayWait_bar c); iexact Hlev
    iexact Hat
  iintro ⟨HO, Hat, -, Hpay⟩
  ihave Hp := (show (bigSep ((Rd V).duties ((c : Thread nD τ), SemLoc.reg barS) 0 \ ∅) fun d => (Rd V).payload ((c : Thread nD τ), SemLoc.reg barS) 0 d)
      ⊢ iprop(barPay (F := F) c 0 ∗ barPay (F := F) c 1 ∗ barPay (F := F) c 2) from Entails.of_eq (rest_bar V c)) $$ Hpay
  imod (Rounds.cell_close ER (Rd V) (Set.mem_univ (K (c, bar))) (fun h => h) (R := 0 + 1) (duties_later V (cell c bar))) $$ [Hat] with Hz
  · isplitr; · iapply (inv_at V K (c, bar)); iexact HR
    iexact Hat
  iapply Hk
  isplitl [HO]; · iexists _; iexact HO
  isplitl [Hz]; · iexact Hz
  iexact Hp

/-- A wait on one of the twelve semaphores of the copies, with nothing owed. -/
theorem step_wait (k : Bool × Fin 6) {sem : DmaSem sig} (hs : osem k = .dma sem) {sp sp' : Space} {s s' : Shape} {e e' : EltTy}
    {m : Memref sig .tc sp' s' e'} {κ' : Kind} {m' : Memref sig κ' sp s e} {h : m.view.WordExact} {h' : m'.view.WordExact}
    (hN : m'.view.dmaCredit = N) {κ : PUnit → Prog (TpuEff nD τ sig (Elt F) Λ₀ .tc) α} {Q : α → sProp 𝕄} :
    iprop(records V K ∗ owe c 0 ∗ cred (tallyAt (cell c (some k)) () N) ∗ atPos ER (cell c (some k)) 0 ∅ 0)
      ⊢ iprop(((owe c 0 ∗ semVal (cell c (some k)) 0 ∗ pay V c 0 (some k)) -∗ run c (κ ⟨⟩) Q)
        -∗ run c (.op (.waitDma2 sem m m' h h') κ) Q) := by
  unfold owe
  have hc : cell c (some k) = ((c : Thread nD τ), SemLoc.dma sem) := congrArg (Prod.mk (c : Thread nD τ)) hs
  iintro ⟨#HR, ⟨%W, HO⟩, Hc, Hat⟩ Hk
  ihave #HI := (inv_at V K (c, some k)) $$ HR
  rw [show kcell (c, some k) = ((c : Thread nD τ), SemLoc.dma sem) from hc, hc, ← hN]
  iapply (Rounds.wp_wait_rest_token 𝒱₀ ER (Rd V) (c : Thread nD τ) none (κ := K (c, some k))
      (wpE_waitDma2_eq 𝒱₀ (c : Thread nD τ) none Set.univ) (Set.mem_univ _) () (O := 0) (W := W) (R := 0) (m := 0) (T := ∅)
      (by rw [← hc, expect_dma, hN]; exact Nat.zero_add _)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (show (bigSep ((Rd V).duties ((c : Thread nD τ), SemLoc.dma sem) 0 \ ∅) fun d => (Rd V).payload ((c : Thread nD τ), SemLoc.dma sem) 0 d)
      ⊢ pay V c 0 (some k) from Entails.of_eq (by rw [← hc]; exact rest_dma V c k)) $$ Hpay
  imod (Rounds.cell_close ER (Rd V) (Set.mem_univ (K (c, some k))) (fun h => h) (R := 0 + 1) (duties_later V _)) $$ [Hat] with Hz
  · isplitr; · iexact HI
    iexact Hat
  iapply Hk
  isplitl [HO]; · iexists _; iexact HO
  isplitl [Hz]; · iexact Hz
  iexact Hp

end Cert.Moe

end
-- ==== Proof.Push.lean ====
/-
Filling a send slot and copying it into a peer's receive slot: one rule for the six copies of a device.
-/
module

public import proofs.«01_k».proof.Proof.Steps
public import Idealize.ShloMosaic.Lib.ViewIndex

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Copying one view, re-indexed, into another, re-indexed the same way: the second reads what the first read. -/
theorem read_of_copy {κ κ' : Kind} {sp sp' : Space} {s s' : Shape} {e : EltTy} (v : View sig κ sp s e) (v' : View sig κ' sp' s e)
    (h : s'.numel = s.numel) (f : v.ty.Contents (Elt F)) (g : v'.ty.Contents (Elt F)) :
    v'.read (Elt F) ((v'.reshape s' h).write (Elt F) g ((v.reshape s' h).read (Elt F) f) Finset.univ) = v.read (Elt F) f := by
  funext y
  obtain ⟨x, rfl⟩ := (Shape.reshapeEquiv h).surjective y
  rw [View.read_write_reshape]
  rfl

variable (V : Dev nD → Ops F) (K : Dev nD × CI → ℕ) (c : Dev nD)

/-- The copy of send slot `i` into its receiver. -/
theorem step_copy (i : Fin 6) (n : Dev nD) (hn : n = tgt c i)
    {hsc : (rEnd (land i)).view.ref.isScScratch = false}
    {hsrc : (sEnd i).view.WordExact} {hdst : (rEnd (land i)).view.WordExact}
    {hsem : DmaTarget.Typed .vmem (.dma (rSem (land i))) (.remote (Dev.tc n : Thread nD τ) (rEnd (land i)) (.dma (sSem i)) hsc)}
    {O : CellTallies nD τ sig Unit} {α : Type} {Q : α → sProp 𝕄} {κ : PUnit → Prog (TpuEff nD τ sig (Elt F) Λ₀ .tc) α} :
    iprop(records V K ∗ owns (c : Thread nD τ) (sSlot i) fullShare (slab V c i) ∗ anyR (F := F) (tgt c i) (land i)
        ∗ owe c (O + tallyAt (cell (tgt c i) (rcv (land i))) () N)
        ∗ dutyTok ER (cell c (snd i)) 0 0 ∗ dutyTok ER (cell (tgt c i) (rcv (land i))) 0 0)
      ⊢ iprop(((cred (tallyAt (cell c (snd i)) () N) ∗ owe c O) -∗ run c (κ ⟨⟩) Q)
          -∗ run c (.op (.enqueueDma (sEnd i) (.remote (Dev.tc n : Thread nD τ) (rEnd (land i)) (.dma (sSem i)) hsc) (.dma (rSem (land i))) hsrc hdst hsem) κ) Q) := by
  subst hn
  unfold anyR owe owns
  iintro ⟨#HR, ⟨%f, %hf, Hs⟩, ⟨%X, %g, %hg, Hd⟩, ⟨%W, HO⟩, Ht1, Ht2⟩ Hk
  iapply (Rounds.wp_send_pointsTo 𝒱₀ ER (Rd V) (c : Thread nD τ) none (κ₁ := K (c, snd i)) (κ₂ := K (tgt c i, rcv (land i)))
      (src := sEnd i) (dst := rEnd (land i)) (c' := (tgt c i : Thread nD τ))
      (sS := .dma (sSem i)) (sem := .dma (rSem (land i))) (q := fullShare) (fs := f)
      (r₁ := 0) (r₂ := 0) (d₁ := 0) (d₂ := 0) (fd := g)
      (by rw [show ((c : Thread nD τ), SemLoc.dma (sSem i)) = cell c (snd i) from rfl, duties_cell]; exact Finset.mem_singleton_self _)
      (by rw [show ((tgt c i : Thread nD τ), SemLoc.dma (rSem (land i))) = cell (tgt c i) (rcv (land i)) from rfl, duties_cell]; exact Finset.mem_singleton_self _)
      () () N rfl (amount_cell V c (snd i) 0) (amount_cell V (tgt c i) (rcv (land i)) 0) O rfl (W := W)
      (by
        rw [show ((c : Thread nD τ), SemLoc.dma (sSem i)) = cell c (snd i) from rfl, payload_cell]
        show _ ⊢ sendPay V c i
        unfold sendPay owns
        rw [View.set_reshape]
        iintro H
        iexists f
        isplitr; · (ipureintro; exact hf)
        iexact H)
      (by
        rw [show ((tgt c i : Thread nD τ), SemLoc.dma (rSem (land i))) = cell (tgt c i) (rcv (land i)) from rfl, payload_cell]
        show _ ⊢ recvPay V (tgt c i) (land i)
        unfold recvPay owns
        rw [View.set_reshape, landed_tgt]
        iintro H
        iexists _
        isplitr; swap; · iexact H
        ipureintro
        rw [← hf]
        exact read_of_copy (sSlot i).view (rSlot (land i)).view _ f g)) $$ [Hs Hd HO Ht1 Ht2]
  · isplitr; · iapply (inv_at V K (c, snd i)); iexact HR
    isplitr; · iapply (inv_at V K (tgt c i, rcv (land i))); iexact HR
    isplitl [Hs]; · rw [View.set_reshape]; iexact Hs
    isplitl [Hd]; · rw [View.set_reshape]; iexact Hd
    isplitl [HO]; · iexact HO
    isplitl [Ht1]; · iexact Ht1
    isplitr; · iapply (reached_at V K (c, snd i)); iexact HR
    isplitl [Ht2]; · iexact Ht2
    iapply (reached_at V K (tgt c i, rcv (land i))); iexact HR
  iintro ⟨Hc, HO⟩
  iapply Hk
  isplitl [Hc]; · iexact Hc
  iexists W; iexact HO

/-- Reading send slot `i`, storing the slab there and copying it to its receiver. -/
theorem step_push (i : Fin 6) (n : Dev nD) (hn : n = tgt c i) {X : (rct i).shape.Idx → Elt F .bf16} (hX : X = slab V c i)
    {hl : (sM : Memref sig .tc .vmem S6x128x512 .bf16).view.LoadsAt (rct i).toLoadRect} {hx : ((sM : Memref sig .tc .vmem S6x128x512 .bf16).access (rct i)).Stores Finset.univ} {hm}
    {hsc : (rEnd (land i)).view.ref.isScScratch = false}
    {hsrc : (sEnd i).view.WordExact} {hdst : (rEnd (land i)).view.WordExact}
    {hsem : DmaTarget.Typed .vmem (.dma (rSem (land i))) (.remote (Dev.tc n : Thread nD τ) (rEnd (land i)) (.dma (sSem i)) hsc)}
    {O : CellTallies nD τ sig Unit} {α : Type} {Q : α → sProp 𝕄} {κ : PUnit → Prog (TpuEff nD τ sig (Elt F) Λ₀ .tc) α} :
    iprop(records V K ∗ anyS (F := F) c i ∗ anyR (F := F) (tgt c i) (land i)
        ∗ owe c (O + tallyAt (cell (tgt c i) (rcv (land i))) () N)
        ∗ dutyTok ER (cell c (snd i)) 0 0 ∗ dutyTok ER (cell (tgt c i) (rcv (land i))) 0 0)
      ⊢ iprop(((cred (tallyAt (cell c (snd i)) () N) ∗ owe c O) -∗ run c (κ ⟨⟩) Q)
          -∗ run c (.op (.load sM (rct i).toLoadRect hl) fun _ => .op (.store sM (rct i) X Finset.univ hx hm) fun _ =>
              .op (.enqueueDma (sEnd i) (.remote (Dev.tc n : Thread nD τ) (rEnd (land i)) (.dma (sSem i)) hsc) (.dma (rSem (land i))) hsrc hdst hsem) κ) Q) := by
  subst hX
  unfold anyS
  iintro ⟨#HR, ⟨%Y, Hs⟩, Hd, HO, Ht1, Ht2⟩ Hk
  iapply (slot_load c (m := sM) (r := rct i) (hr := fun _ => rfl) Y) $$ Hs; iintro Hs
  iapply (slot_store c (m := sM) (r := rct i) (hr := fun _ => rfl) Y) $$ Hs; iintro Hs
  iapply (step_copy V K c i n hn) $$ [Hs Hd HO Ht1 Ht2]
  · isplitr; · iexact HR
    isplitl [Hs]; · iexact Hs
    isplitl [Hd]; · iexact Hd
    isplitl [HO]; · iexact HO
    isplitl [Ht1] <;> iassumption
  iexact Hk

end Cert.Moe

end
-- ==== Proof.PartsA.lean ====
/-
The first four parts of the kernel: the barrier, and the gates of the four chunks of 256 tokens.
-/
module

public import proofs.«01_k».proof.Proof.Push

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Ops F) (K : Dev nD × CI → ℕ) (c : Dev nD)

/-- The staged operands and the gate array, owned at known contents. -/
abbrev xAt : sProp 𝕄 := owns (c : Thread nD τ) xM fullShare (V c).x
abbrev tAt : sProp 𝕄 := owns (c : Thread nD τ) tM fullShare (V c).rt
abbrev wAt : sProp 𝕄 := owns (c : Thread nD τ) wM fullShare (V c).w
abbrev gAt (c : Dev nD) (G : S1024x4.Idx → Elt F .bf16) : sProp 𝕄 := owns (c : Thread nD τ) gM fullShare G
abbrev oAt (c : Dev nD) (G : S256x512.Idx → Elt F .f32) : sProp 𝕄 := owns (c : Thread nD τ) oM fullShare G

/-- A program that is done. -/
theorem run_ret {α : Type} (a : α) (Q : α → sProp 𝕄) : Q a ⊢ run c (.ret a) Q := by unfold run; rw [wp_ret]; exact fupd_intro

/-- A load of half of the rows of device `d`, of the tokens and of the gates. -/
theorem load_x (d : Dev nD) (h : Fin 2) {off : Fin 2 → ℕ} {inb : ∀ a, off a + S128x256.size a ≤ S1024x256.size a}
    {hl : (xM : Memref sig .tc .vmem S1024x256 .bf16).view.LoadsAt (Rect.unit (s := S1024x256) off S128x256.size inb).toLoadRect} {α : Type}
    {k : Vec F S128x256 .bf16 → Prog (TpuEff nD τ sig (Elt F) Λ₀ .tc) α} {Q : α → sProp 𝕄} (ho : off = ![256 * d.val + 128 * h.val, 0]) :
    xAt V c ⊢ iprop((xAt V c -∗ run c (k (xRows (V c).x d h)) Q)
      -∗ run c (.op (.load xM (Rect.unit (s := S1024x256) off S128x256.size inb).toLoadRect hl) k) Q) :=
  owns_load c ho (rows_inb d h) _
theorem load_g (d : Dev nD) (h : Fin 2) {off : Fin 2 → ℕ} {inb : ∀ a, off a + S128x4.size a ≤ S1024x4.size a} {G : S1024x4.Idx → Elt F .bf16}
    {hl : (gM : Memref sig .tc .vmem S1024x4 .bf16).view.LoadsAt (Rect.unit (s := S1024x4) off S128x4.size inb).toLoadRect} {α : Type}
    {k : Vec F S128x4 .bf16 → Prog (TpuEff nD τ sig (Elt F) Λ₀ .tc) α} {Q : α → sProp 𝕄} (ho : off = ![256 * d.val + 128 * h.val, 0]) :
    gAt c G ⊢ iprop((gAt c G -∗ run c (k (gRows G d h)) Q)
      -∗ run c (.op (.load gM (Rect.unit (s := S1024x4) off S128x4.size inb).toLoadRect hl) k) Q) :=
  owns_load c ho (rows4_inb d h) _

/-- The three signals, the barrier wait, and the routes read. -/
theorem part1 (Kt : _ → sProp 𝕄) :
    iprop(records V K ∗ levAts L lv ∗ owe c (O₀ c) ∗ cred (tallyAt (cell c bar) () 3) ∗ atPos ER (cell c bar) 0 ∅ 0
        ∗ dutyTok ER (cell (sh c 1) bar) 0 0 ∗ dutyTok ER (cell (sh c 2) bar) 0 1 ∗ dutyTok ER (cell (sh c 3) bar) 0 2
        ∗ (anyR (F := F) c 0 ∗ anyR (F := F) c 1 ∗ anyR (F := F) c 2 ∗ anyR (F := F) c 3 ∗ anyR (F := F) c 4 ∗ anyR (F := F) c 5)
        ∗ tAt V c
        ∗ ((owe c (owesS c 6) ∗ semVal (cell c bar) 0 ∗ (barPay (F := F) c 0 ∗ barPay (F := F) c 1 ∗ barPay (F := F) c 2) ∗ tAt V c)
            -∗ Kt ⟨c, word c, k0_pay3 (V c).rt, lanes16, lanes4, k0_pay4 (F := F), k0_pay5 (F := F), k0_pay6 (V c).rt, k0_pay7 (V c).rt⟩))
      ⊢ run c (k0_part1 xM (Memref.isWhole_whole _) tM (Memref.isWhole_whole _) wM (Memref.isWhole_whole _) oM (Memref.isWhole_whole _) gM (Memref.isWhole_whole _) sM (Memref.isWhole_whole _) rM (Memref.isWhole_whole _) cc0_scratch3 cc0_scratch4) Kt := by
  rw [k0_part1_eq_skeleton]; unfold k0_part1_skel
  simp only [semSignalWord, semWaitWord, Prog.lift, Prog.bind_op, Prog.bind_ret, Prog.pure_eq_ret, wp_deviceId]
  iintro ⟨#HR, #Hlev, HO, Hc, Hat, Ht1, Ht2, Ht3, ⟨H0, H1, H2, H3, H4, H5⟩, Hrt, Hk⟩
  iapply (step_signal V K c 0 ⟨k0_dev1 c, k0_dev1_lt c⟩ (Fin.ext (k0_dev1_eq c)) rfl (O := owesB c 2)) $$ [HO Ht1 H0 H1]
  · isplitr; · iexact HR
    isplitl [HO]; · iexact HO
    isplitl [Ht1]; · iexact Ht1
    isplitl [H0]; · iexact H0
    iexact H1
  iintro HO
  iapply (step_signal V K c 1 ⟨k0_dev2 c, k0_dev2_lt c⟩ (Fin.ext (k0_dev2_eq c)) rfl (O := owesB c 1)) $$ [HO Ht2 H2 H3]
  · isplitr; · iexact HR
    isplitl [HO]; · iexact HO
    isplitl [Ht2]; · iexact Ht2
    isplitl [H2]; · iexact H2
    iexact H3
  iintro HO
  iapply (step_signal V K c 2 ⟨k0_dev3 c, k0_dev3_lt c⟩ (Fin.ext (k0_dev3_eq c)) rfl (O := owesB c 0)) $$ [HO Ht3 H4 H5]
  · isplitr; · iexact HR
    isplitl [HO]; · iexact HO
    isplitl [Ht3]; · iexact Ht3
    isplitl [H4]; · iexact H4
    iexact H5
  iintro HO
  iapply (step_bar V K c rfl) $$ [HO Hc Hat]
  · isplitr; · iexact HR
    isplitr; · iexact Hlev
    isplitl [HO]; · iexact HO
    isplitl [Hc]; · iexact Hc
    iexact Hat
  iintro ⟨HO, Hz, Hb⟩
  iapply (owns_load_full c (m := tM) (V c).rt) $$ Hrt; iintro Hrt
  iapply run_ret
  iapply Hk
  isplitl [HO]; · iexact HO
  isplitl [Hz]; · iexact Hz
  isplitl [Hb]; · iexact Hb
  iexact Hrt

/-- The gates of the first chunk. -/
theorem part2 (G : S1024x4.Idx → Elt F .bf16) (Kt : _ → sProp 𝕄) :
    iprop(gAt c G ∗ (gAt c (VecWindow.put (s := S1024x4) G ![0, 0] S256x4.size (gate0 (V c).rt c))
          -∗ Kt ⟨k0_pay10 (k0_pay3 (V c).rt), seen1 (V c).rt, k0_pay13 (k0_pay3 (V c).rt) lanes16 k0_pay4 k0_pay5 (k0_pay7 (V c).rt)⟩))
      ⊢ run c (k0_part2 xM (Memref.isWhole_whole _) tM (Memref.isWhole_whole _) wM (Memref.isWhole_whole _) oM (Memref.isWhole_whole _) gM (Memref.isWhole_whole _) sM (Memref.isWhole_whole _) rM (Memref.isWhole_whole _) cc0_scratch3 cc0_scratch4 (word c) (k0_pay3 (V c).rt) lanes16 lanes4 k0_pay4 k0_pay5 (k0_pay6 (V c).rt) (k0_pay7 (V c).rt)) Kt := by
  rw [k0_part2_eq_skeleton]; unfold k0_part2_skel
  simp only [semSignalWord, semWaitWord, Prog.lift, Prog.bind_op, Prog.bind_ret, Prog.pure_eq_ret, wp_deviceId]
  iintro ⟨Hg, Hk⟩
  iapply (owns_load c (m := gM) rfl inb_S1024x4_S256x4_0_0 G) $$ Hg; iintro Hg
  iapply (owns_store c (m := gM) G) $$ Hg; iintro Hg
  iapply run_ret
  iapply Hk
  iexact Hg

/-- The gates of the second and the third chunk. -/
theorem part3 (G : S1024x4.Idx → Elt F .bf16) (Kt : _ → sProp 𝕄) :
    iprop(gAt c G ∗ (gAt c (VecWindow.put (s := S1024x4) (VecWindow.put (s := S1024x4) G ![256, 0] S256x4.size (gate1 (V c).rt c)) ![512, 0] S256x4.size (gate2 (V c).rt c))
          -∗ Kt (seen2 (V c).rt)))
      ⊢ run c (k0_part3 xM (Memref.isWhole_whole _) tM (Memref.isWhole_whole _) wM (Memref.isWhole_whole _) oM (Memref.isWhole_whole _) gM (Memref.isWhole_whole _) sM (Memref.isWhole_whole _) rM (Memref.isWhole_whole _) cc0_scratch3 cc0_scratch4 (word c) (k0_pay3 (V c).rt) lanes16 lanes4 k0_pay4 (k0_pay10 (k0_pay3 (V c).rt)) (seen1 (V c).rt)
          (k0_pay13 (k0_pay3 (V c).rt) lanes16 k0_pay4 k0_pay5 (k0_pay7 (V c).rt))) Kt := by
  rw [k0_part3_eq_skeleton]; unfold k0_part3_skel
  simp only [semSignalWord, semWaitWord, Prog.lift, Prog.bind_op, Prog.bind_ret, Prog.pure_eq_ret, wp_deviceId]
  iintro ⟨Hg, Hk⟩
  iapply (owns_load c (m := gM) rfl inb_S1024x4_S256x4_256_0 _) $$ Hg; iintro Hg
  iapply (owns_store c (m := gM) _) $$ Hg; iintro Hg
  iapply (owns_load c (m := gM) rfl inb_S1024x4_S256x4_512_0 _) $$ Hg; iintro Hg
  iapply (owns_store c (m := gM) _) $$ Hg; iintro Hg
  iapply run_ret
  iapply Hk
  iexact Hg

/-- The gates of the last chunk, the experts read, and the first rows of tokens and gates. -/
theorem part4 (G : S1024x4.Idx → Elt F .bf16) (hG : VecWindow.put (s := S1024x4) G ![768, 0] S256x4.size (gate3 (V c).rt c) = gates (V c).rt c)
    (Kt : _ → sProp 𝕄) :
    iprop(gAt c G ∗ xAt V c ∗ wAt V c ∗ ((gAt c (gates (V c).rt c) ∗ xAt V c ∗ wAt V c)
          -∗ ∀ b : BitVec 32, Kt ⟨k0_pay20 (V c).w, b, k0_pay21 (xRows (V c).x (tgt c 0) (half 0)), gRows (gates (V c).rt c) (tgt c 0) (half 0),
            k0_pay22 (gRows (gates (V c).rt c) (tgt c 0) (half 0))⟩))
      ⊢ run c (k0_part4 xM (Memref.isWhole_whole _) tM (Memref.isWhole_whole _) wM (Memref.isWhole_whole _) oM (Memref.isWhole_whole _) gM (Memref.isWhole_whole _) sM (Memref.isWhole_whole _) rM (Memref.isWhole_whole _) cc0_scratch3 cc0_scratch4 c (word c) (k0_pay3 (V c).rt) lanes16 lanes4 k0_pay4 (seen2 (V c).rt)) Kt := by
  rw [k0_part4_eq_skeleton]; unfold k0_part4_skel
  simp only [semSignalWord, semWaitWord, Prog.lift, Prog.bind_op, Prog.bind_ret, Prog.pure_eq_ret, wp_deviceId]
  iintro ⟨Hg, Hx, Hw, Hk⟩
  iapply (owns_load c (m := gM) rfl inb_S1024x4_S256x4_768_0 _) $$ Hg; iintro Hg
  iapply (owns_store c (m := gM) _) $$ Hg; iintro Hg
  rw [show VecWindow.put (s := S1024x4) G ![768, 0] S256x4.size (k0_pay19 (word c) (k0_pay3 (V c).rt) lanes16 lanes4 k0_pay4 (seen2 (V c).rt)) = gates (V c).rt c from hG]
  iapply (owns_load_full c (m := wM) (V c).w) $$ Hw; iintro Hw
  iapply (load_x V c (tgt c 0) (half 0) (k0_off1_eq c 1 0)) $$ Hx; iintro Hx
  iapply (load_g c (tgt c 0) (half 0) (k0_off2_eq c 1 0)) $$ Hg; iintro Hg
  iapply run_ret
  iapply Hk $$ [Hg Hx Hw]
  isplitl [Hg]; · iexact Hg
  isplitl [Hx] <;> iassumption

end Cert.Moe

end
-- ==== Proof.PartsB.lean ====
/-
The six parts of the kernel that send: each fills a slot, copies it to its receiver and reads the
rows of the next one.
-/
module

public import proofs.«01_k».proof.Proof.PartsA

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Ops F) (K : Dev nD × CI → ℕ) (c : Dev nD)

/-- What the copy of send slot `i` uses: the two slots and the right to credit the two semaphores. -/
def pushIn (i : Fin 6) : sProp 𝕄 :=
  iprop(anyS (F := F) c i ∗ anyR (F := F) (tgt c i) (land i)
    ∗ dutyTok ER (cell c (snd i)) 0 0 ∗ dutyTok ER (cell (tgt c i) (rcv (land i))) 0 0)

/-- The credit the copy leaves: the bytes of one slot at the send semaphore. -/
abbrev sentCred (i : Fin 6) : sProp 𝕄 := cred (tallyAt (cell c (snd i)) () N)

/-- The device's experts as one matrix; the rows of tokens and of gates for send slot `i`, and the device's own. -/
abbrev wv : FVec F S1024x512 .bf16 := k0_pay20 (V c).w
abbrev xv (i : Fin 6) : Vec F S128x256 .bf16 := xRows (V c).x (tgt c i) (half i)
abbrev gv (i : Fin 6) : Vec F S128x4 .bf16 := gRows (gates (V c).rt c) (tgt c i) (half i)
abbrev xo (h : Fin 2) : Vec F S128x256 .bf16 := xRows (V c).x c h
abbrev go (h : Fin 2) : Vec F S128x4 .bf16 := gRows (gates (V c).rt c) c h

/-- The first copy. -/
theorem part5 (b : BitVec 32) (Kt : _ → sProp 𝕄) :
    iprop(records V K ∗ pushIn (F := F) c 0 ∗ owe c (owesS c 6) ∗ gAt c (gates (V c).rt c) ∗ xAt V c
        ∗ ((sentCred (F := F) c 0 ∗ owe c (owesS c 5) ∗ gAt c (gates (V c).rt c) ∗ xAt V c) -∗ Kt ⟨k0_pay24 (xv V c 1), (gv V c 1), k0_pay25 (xv V c 1) (gv V c 1), k0_pay26 (xv V c 1) (gv V c 1), k0_pay27 (gv V c 1)⟩))
      ⊢ run c (k0_part5 xM (Memref.isWhole_whole _) tM (Memref.isWhole_whole _) wM (Memref.isWhole_whole _) oM (Memref.isWhole_whole _) gM (Memref.isWhole_whole _) sM (Memref.isWhole_whole _) rM (Memref.isWhole_whole _) cc0_scratch3 cc0_scratch4 c (wv V c) b (k0_pay21 (xv V c 0)) (gv V c 0) (k0_pay22 (gv V c 0))) Kt := by
  rw [k0_part5_eq_skeleton]; unfold k0_part5_skel pushIn
  simp only [semSignalWord, semWaitWord, Prog.lift, Prog.bind_op, Prog.bind_ret, Prog.pure_eq_ret, wp_deviceId]
  iintro ⟨#HR, ⟨Hs, Hd, Ht1, Ht2⟩, HO, Hg, Hx, Hk⟩
  iapply (step_push V K c 0 ⟨k0_dev4 c, k0_dev4_lt c⟩ (Fin.ext (k0_dev4_eq c)) rfl (O := owesS c 5)) $$ [Hs Hd HO Ht1 Ht2]
  · isplitr; · iexact HR
    isplitl [Hs]; · iexact Hs
    isplitl [Hd]; · iexact Hd
    isplitl [HO]; · iexact HO
    isplitl [Ht1] <;> iassumption
  iintro ⟨Hc, HO⟩
  iapply (load_x V c (tgt c 1) (half 1) (k0_off1_eq c 1 1)) $$ Hx; iintro Hx
  iapply (load_g c (tgt c 1) (half 1) (k0_off2_eq c 1 1)) $$ Hg; iintro Hg
  iapply run_ret
  iapply Hk $$ [Hc HO Hg Hx]
  isplitl [Hc]; · iexact Hc
  isplitl [HO]; · iexact HO
  isplitl [Hg] <;> iassumption

/-- The second copy. -/
theorem part6 (b : BitVec 32) (Kt : _ → sProp 𝕄) :
    iprop(records V K ∗ pushIn (F := F) c 1 ∗ owe c (owesS c 5) ∗ gAt c (gates (V c).rt c) ∗ xAt V c
        ∗ ((sentCred (F := F) c 1 ∗ owe c (owesS c 4) ∗ gAt c (gates (V c).rt c) ∗ xAt V c) -∗ ∀ b' : BitVec 32, Kt ⟨b', k0_pay29 (xv V c 2), (gv V c 2), k0_pay30 (xv V c 2) (gv V c 2), k0_pay31 (xv V c 2) (gv V c 2), k0_pay32 (gv V c 2)⟩))
      ⊢ run c (k0_part6 xM (Memref.isWhole_whole _) tM (Memref.isWhole_whole _) wM (Memref.isWhole_whole _) oM (Memref.isWhole_whole _) gM (Memref.isWhole_whole _) sM (Memref.isWhole_whole _) rM (Memref.isWhole_whole _) cc0_scratch3 cc0_scratch4 c (word c) (wv V c) b (k0_pay24 (xv V c 1)) (gv V c 1) (k0_pay25 (xv V c 1) (gv V c 1)) (k0_pay26 (xv V c 1) (gv V c 1)) (k0_pay27 (gv V c 1))) Kt := by
  rw [k0_part6_eq_skeleton]; unfold k0_part6_skel pushIn
  simp only [semSignalWord, semWaitWord, Prog.lift, Prog.bind_op, Prog.bind_ret, Prog.pure_eq_ret, wp_deviceId]
  iintro ⟨#HR, ⟨Hs, Hd, Ht1, Ht2⟩, HO, Hg, Hx, Hk⟩
  iapply (step_push V K c 1 ⟨k0_dev5 c, k0_dev5_lt c⟩ (Fin.ext (k0_dev5_eq c)) (slab_a _ _ _) (O := owesS c 4)) $$ [Hs Hd HO Ht1 Ht2]
  · isplitr; · iexact HR
    isplitl [Hs]; · iexact Hs
    isplitl [Hd]; · iexact Hd
    isplitl [HO]; · iexact HO
    isplitl [Ht1] <;> iassumption
  iintro ⟨Hc, HO⟩
  iapply (load_x V c (tgt c 2) (half 2) (k0_off1_eq c 0 0)) $$ Hx; iintro Hx
  iapply (load_g c (tgt c 2) (half 2) (k0_off2_eq c 0 0)) $$ Hg; iintro Hg
  iapply run_ret
  iapply Hk $$ [Hc HO Hg Hx]
  isplitl [Hc]; · iexact Hc
  isplitl [HO]; · iexact HO
  isplitl [Hg] <;> iassumption

/-- The third copy. -/
theorem part7 (b : BitVec 32) (Kt : _ → sProp 𝕄) :
    iprop(records V K ∗ pushIn (F := F) c 2 ∗ owe c (owesS c 4) ∗ gAt c (gates (V c).rt c) ∗ xAt V c
        ∗ ((sentCred (F := F) c 2 ∗ owe c (owesS c 3) ∗ gAt c (gates (V c).rt c) ∗ xAt V c) -∗ Kt (k0_pay34 (xv V c 3) (gv V c 3))))
      ⊢ run c (k0_part7 xM (Memref.isWhole_whole _) tM (Memref.isWhole_whole _) wM (Memref.isWhole_whole _) oM (Memref.isWhole_whole _) gM (Memref.isWhole_whole _) sM (Memref.isWhole_whole _) rM (Memref.isWhole_whole _) cc0_scratch3 cc0_scratch4 c (wv V c) b (k0_pay29 (xv V c 2)) (gv V c 2) (k0_pay30 (xv V c 2) (gv V c 2)) (k0_pay31 (xv V c 2) (gv V c 2)) (k0_pay32 (gv V c 2))) Kt := by
  rw [k0_part7_eq_skeleton]; unfold k0_part7_skel pushIn
  simp only [semSignalWord, semWaitWord, Prog.lift, Prog.bind_op, Prog.bind_ret, Prog.pure_eq_ret, wp_deviceId]
  iintro ⟨#HR, ⟨Hs, Hd, Ht1, Ht2⟩, HO, Hg, Hx, Hk⟩
  iapply (step_push V K c 2 ⟨k0_dev6 c, k0_dev6_lt c⟩ (Fin.ext (k0_dev6_eq c)) (slab_b _ _ _) (O := owesS c 3)) $$ [Hs Hd HO Ht1 Ht2]
  · isplitr; · iexact HR
    isplitl [Hs]; · iexact Hs
    isplitl [Hd]; · iexact Hd
    isplitl [HO]; · iexact HO
    isplitl [Ht1] <;> iassumption
  iintro ⟨Hc, HO⟩
  iapply (load_x V c (tgt c 3) (half 3) (k0_off1_eq c 0 1)) $$ Hx; iintro Hx
  iapply (load_g c (tgt c 3) (half 3) (k0_off2_eq c 0 1)) $$ Hg; iintro Hg
  iapply run_ret
  iapply Hk $$ [Hc HO Hg Hx]
  isplitl [Hc]; · iexact Hc
  isplitl [HO]; · iexact HO
  isplitl [Hg] <;> iassumption

/-- The fourth copy. -/
theorem part8 (b : BitVec 32) (Kt : _ → sProp 𝕄) :
    iprop(records V K ∗ pushIn (F := F) c 3 ∗ owe c (owesS c 3) ∗ gAt c (gates (V c).rt c) ∗ xAt V c
        ∗ ((sentCred (F := F) c 3 ∗ owe c (owesS c 2) ∗ gAt c (gates (V c).rt c) ∗ xAt V c) -∗ ∀ b' : BitVec 32, Kt ⟨b', k0_pay36 (xv V c 4) (gv V c 4), constant S128x512 .f32 0x00000000#32⟩))
      ⊢ run c (k0_part8 xM (Memref.isWhole_whole _) tM (Memref.isWhole_whole _) wM (Memref.isWhole_whole _) oM (Memref.isWhole_whole _) gM (Memref.isWhole_whole _) sM (Memref.isWhole_whole _) rM (Memref.isWhole_whole _) cc0_scratch3 cc0_scratch4 c (word c) (wv V c) b (k0_pay34 (xv V c 3) (gv V c 3))) Kt := by
  rw [k0_part8_eq_skeleton]; unfold k0_part8_skel pushIn
  simp only [semSignalWord, semWaitWord, Prog.lift, Prog.bind_op, Prog.bind_ret, Prog.pure_eq_ret, wp_deviceId]
  iintro ⟨#HR, ⟨Hs, Hd, Ht1, Ht2⟩, HO, Hg, Hx, Hk⟩
  iapply (step_push V K c 3 ⟨k0_dev7 c, k0_dev7_lt c⟩ (Fin.ext (k0_dev7_eq c)) (slab_c _ _ _) (O := owesS c 2)) $$ [Hs Hd HO Ht1 Ht2]
  · isplitr; · iexact HR
    isplitl [Hs]; · iexact Hs
    isplitl [Hd]; · iexact Hd
    isplitl [HO]; · iexact HO
    isplitl [Ht1] <;> iassumption
  iintro ⟨Hc, HO⟩
  iapply (load_x V c (tgt c 4) (half 4) (k0_off1_eq c 2 0)) $$ Hx; iintro Hx
  iapply (load_g c (tgt c 4) (half 4) (k0_off2_eq c 2 0)) $$ Hg; iintro Hg
  iapply run_ret
  iapply Hk $$ [Hc HO Hg Hx]
  isplitl [Hc]; · iexact Hc
  isplitl [HO]; · iexact HO
  isplitl [Hg] <;> iassumption

/-- The fifth copy. -/
theorem part9 (b : BitVec 32) (Kt : _ → sProp 𝕄) :
    iprop(records V K ∗ pushIn (F := F) c 4 ∗ owe c (owesS c 2) ∗ gAt c (gates (V c).rt c) ∗ xAt V c
        ∗ ((sentCred (F := F) c 4 ∗ owe c (owesS c 1) ∗ gAt c (gates (V c).rt c) ∗ xAt V c) -∗ Kt (k0_pay38 (wv V c) (xv V c 5) (gv V c 5))))
      ⊢ run c (k0_part9 xM (Memref.isWhole_whole _) tM (Memref.isWhole_whole _) wM (Memref.isWhole_whole _) oM (Memref.isWhole_whole _) gM (Memref.isWhole_whole _) sM (Memref.isWhole_whole _) rM (Memref.isWhole_whole _) cc0_scratch3 cc0_scratch4 c (wv V c) b (k0_pay36 (xv V c 4) (gv V c 4)) (constant S128x512 .f32 0x00000000#32)) Kt := by
  rw [k0_part9_eq_skeleton]; unfold k0_part9_skel pushIn
  simp only [semSignalWord, semWaitWord, Prog.lift, Prog.bind_op, Prog.bind_ret, Prog.pure_eq_ret, wp_deviceId]
  iintro ⟨#HR, ⟨Hs, Hd, Ht1, Ht2⟩, HO, Hg, Hx, Hk⟩
  iapply (step_push V K c 4 ⟨k0_dev8 c, k0_dev8_lt c⟩ (Fin.ext (k0_dev8_eq c)) (slab_d _ _ _) (O := owesS c 1)) $$ [Hs Hd HO Ht1 Ht2]
  · isplitr; · iexact HR
    isplitl [Hs]; · iexact Hs
    isplitl [Hd]; · iexact Hd
    isplitl [HO]; · iexact HO
    isplitl [Ht1] <;> iassumption
  iintro ⟨Hc, HO⟩
  iapply (load_x V c (tgt c 5) (half 5) (k0_off1_eq c 2 1)) $$ Hx; iintro Hx
  iapply (load_g c (tgt c 5) (half 5) (k0_off2_eq c 2 1)) $$ Hg; iintro Hg
  iapply run_ret
  iapply Hk $$ [Hc HO Hg Hx]
  isplitl [Hc]; · iexact Hc
  isplitl [HO]; · iexact HO
  isplitl [Hg] <;> iassumption

/-- The sixth copy. -/
theorem part10 (b : BitVec 32) (Kt : _ → sProp 𝕄) :
    iprop(records V K ∗ pushIn (F := F) c 5 ∗ owe c (owesS c 1) ∗ gAt c (gates (V c).rt c) ∗ xAt V c
        ∗ ((sentCred (F := F) c 5 ∗ owe c (owesS c 0) ∗ gAt c (gates (V c).rt c) ∗ xAt V c) -∗ Kt ⟨k0_pay40 (wv V c) (xo V c 0) (go V c 0), k0_pay41 (xo V c 1)⟩))
      ⊢ run c (k0_part10 xM (Memref.isWhole_whole _) tM (Memref.isWhole_whole _) wM (Memref.isWhole_whole _) oM (Memref.isWhole_whole _) gM (Memref.isWhole_whole _) sM (Memref.isWhole_whole _) rM (Memref.isWhole_whole _) cc0_scratch3 cc0_scratch4 c (word c) (wv V c) b (k0_pay38 (wv V c) (xv V c 5) (gv V c 5))) Kt := by
  rw [k0_part10_eq_skeleton]; unfold k0_part10_skel pushIn
  simp only [semSignalWord, semWaitWord, Prog.lift, Prog.bind_op, Prog.bind_ret, Prog.pure_eq_ret, wp_deviceId]
  iintro ⟨#HR, ⟨Hs, Hd, Ht1, Ht2⟩, HO, Hg, Hx, Hk⟩
  iapply (step_push V K c 5 ⟨k0_dev9 c, k0_dev9_lt c⟩ (Fin.ext (k0_dev9_eq c)) (slab_e _ _ _) (O := owesS c 0)) $$ [Hs Hd HO Ht1 Ht2]
  · isplitr; · iexact HR
    isplitl [Hs]; · iexact Hs
    isplitl [Hd]; · iexact Hd
    isplitl [HO]; · iexact HO
    isplitl [Ht1] <;> iassumption
  iintro ⟨Hc, HO⟩
  iapply (load_x V c c 0 (k0_off3_eq c 0)) $$ Hx; iintro Hx
  iapply (load_g c c 0 (k0_off4_eq c 0)) $$ Hg; iintro Hg
  iapply (load_x V c c 1 (k0_off3_eq c 1)) $$ Hx; iintro Hx
  iapply run_ret
  iapply Hk $$ [Hc HO Hg Hx]
  isplitl [Hc]; · iexact Hc
  isplitl [HO]; · iexact HO
  isplitl [Hg] <;> iassumption

end Cert.Moe

end
-- ==== Proof.PartsC.lean ====
/-
The last four parts of the kernel: the waits on the copies sent and received, and the first two
received slabs read.
-/
module

public import proofs.«01_k».proof.Proof.PartsB

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A copy credits the bytes of one slot, whichever it is. -/
theorem credit_s (i : Fin 6) : (sEnd i).view.dmaCredit = N := by revert i; decide +kernel
theorem credit_r (i : Fin 6) : (rEnd i).view.dmaCredit = N := rfl

variable (V : Dev nD → Ops F) (K : Dev nD × CI → ℕ) (c : Dev nD)

/-- What a wait on one of the copies' semaphores uses, and what it leaves. -/
def waitIn (k : Bool × Fin 6) : sProp 𝕄 := iprop(cred (tallyAt (cell c (some k)) () N) ∗ atPos ER (cell c (some k)) 0 ∅ 0)
def waitOut (k : Bool × Fin 6) : sProp 𝕄 := iprop(semVal (cell c (some k)) 0 ∗ pay V c 0 (some k))

theorem step_wait' (k : Bool × Fin 6) {sem : DmaSem sig} (hs : osem k = .dma sem) {sp sp' : Space} {s s' : Shape} {e e' : EltTy}
    {m : Memref sig .tc sp' s' e'} {κ' : Kind} {m' : Memref sig κ' sp s e} {h : m.view.WordExact} {h' : m'.view.WordExact}
    (hN : m'.view.dmaCredit = N) {α : Type} {κ : PUnit → Prog (TpuEff nD τ sig (Elt F) Λ₀ .tc) α} {Q : α → sProp 𝕄} :
    iprop(records V K ∗ owe c 0 ∗ waitIn (F := F) c k)
      ⊢ iprop(((owe c 0 ∗ waitOut V c k) -∗ run c (κ ⟨⟩) Q) -∗ run c (.op (.waitDma2 sem m m' h h') κ) Q) := by
  unfold waitIn waitOut
  exact step_wait V K c k hs hN

/-- The gates of the second half of the own rows, and the first two send slots back. -/
theorem part11 (Kt : _ → sProp 𝕄) :
    iprop(records V K ∗ owe c 0 ∗ gAt c (gates (V c).rt c) ∗ (waitIn (F := F) c (false, 0) ∗ waitIn (F := F) c (false, 1))
        ∗ ((owe c 0 ∗ gAt c (gates (V c).rt c) ∗ waitOut V c (false, 0) ∗ waitOut V c (false, 1)) -∗ Kt (k0_pay42 (wv V c) (k0_pay41 (xo V c 1)) (go V c 1))))
      ⊢ run c (k0_part11 xM (Memref.isWhole_whole _) tM (Memref.isWhole_whole _) wM (Memref.isWhole_whole _) oM (Memref.isWhole_whole _) gM (Memref.isWhole_whole _) sM (Memref.isWhole_whole _) rM (Memref.isWhole_whole _) cc0_scratch3 cc0_scratch4 c (wv V c) (k0_pay41 (xo V c 1))) Kt := by
  rw [k0_part11_eq_skeleton]; unfold k0_part11_skel
  simp only [semSignalWord, semWaitWord, Prog.lift, Prog.bind_op, Prog.bind_ret, Prog.pure_eq_ret, wp_deviceId]
  iintro ⟨#HR, HO, Hp, ⟨H0, H1⟩, Hk⟩
  iapply (load_g c c 1 (k0_off4_eq c 1)) $$ Hp; iintro Hp
  iapply (step_wait' V K c (false, 0) rfl (credit_s 0)) $$ [HO H0]
  · isplitr; · iexact HR
    isplitl [HO]; · iexact HO
    iexact H0
  iintro ⟨HO, H0⟩
  iapply (step_wait' V K c (false, 1) rfl (credit_s 1)) $$ [HO H1]
  · isplitr; · iexact HR
    isplitl [HO]; · iexact HO
    iexact H1
  iintro ⟨HO, H1⟩
  iapply run_ret
  iapply Hk $$ [HO Hp H0 H1]
  isplitl [HO]; · iexact HO
  isplitl [Hp]; · iexact Hp
  isplitl [H0]; · iexact H0
  iexact H1

/-- The other four send slots back. -/
theorem part12 (b : BitVec 32) (Kt : (Σ' (_ : BitVec 32), BitVec 32) → sProp 𝕄) :
    iprop(records V K ∗ owe c 0 ∗ (waitIn (F := F) c (false, 2) ∗ waitIn (F := F) c (false, 3) ∗ waitIn (F := F) c (false, 4) ∗ waitIn (F := F) c (false, 5))
        ∗ ((owe c 0 ∗ waitOut V c (false, 2) ∗ waitOut V c (false, 3) ∗ waitOut V c (false, 4) ∗ waitOut V c (false, 5)) -∗ ∀ b₁ : BitVec 32, ∀ b₂ : BitVec 32, Kt ⟨b₁, b₂⟩))
      ⊢ run c (k0_part12 xM (Memref.isWhole_whole _) tM (Memref.isWhole_whole _) wM (Memref.isWhole_whole _) oM (Memref.isWhole_whole _) gM (Memref.isWhole_whole _) sM (Memref.isWhole_whole _) rM (Memref.isWhole_whole _) cc0_scratch3 cc0_scratch4 b) Kt := by
  rw [k0_part12_eq_skeleton]; unfold k0_part12_skel
  simp only [semSignalWord, semWaitWord, Prog.lift, Prog.bind_op, Prog.bind_ret, Prog.pure_eq_ret, wp_deviceId]
  iintro ⟨#HR, HO, ⟨H0, H1, H2, H3⟩, Hk⟩
  iapply (step_wait' V K c (false, 2) rfl (credit_s 2)) $$ [HO H0]
  · isplitr; · iexact HR
    isplitl [HO]; · iexact HO
    iexact H0
  iintro ⟨HO, H0⟩
  iapply (step_wait' V K c (false, 3) rfl (credit_s 3)) $$ [HO H1]
  · isplitr; · iexact HR
    isplitl [HO]; · iexact HO
    iexact H1
  iintro ⟨HO, H1⟩
  iapply (step_wait' V K c (false, 4) rfl (credit_s 4)) $$ [HO H2]
  · isplitr; · iexact HR
    isplitl [HO]; · iexact HO
    iexact H2
  iintro ⟨HO, H2⟩
  iapply (step_wait' V K c (false, 5) rfl (credit_s 5)) $$ [HO H3]
  · isplitr; · iexact HR
    isplitl [HO]; · iexact HO
    iexact H3
  iintro ⟨HO, H3⟩
  iapply run_ret
  iapply Hk $$ [HO H0 H1 H2 H3]
  isplitl [HO]; · iexact HO
  isplitl [H0]; · iexact H0
  isplitl [H1]; · iexact H1
  isplitl [H2]; · iexact H2
  iexact H3

/-- Three receive slots. -/
theorem part13 (b b₁ b₂ b₃ : BitVec 32) (Kt : _ → sProp 𝕄) :
    iprop(records V K ∗ owe c 0 ∗ (waitIn (F := F) c (true, 2) ∗ waitIn (F := F) c (true, 3) ∗ waitIn (F := F) c (true, 4))
        ∗ ((owe c 0 ∗ waitOut V c (true, 2) ∗ waitOut V c (true, 3) ∗ waitOut V c (true, 4)) -∗ Kt ⟨⟩))
      ⊢ run c (k0_part13 xM (Memref.isWhole_whole _) tM (Memref.isWhole_whole _) wM (Memref.isWhole_whole _) oM (Memref.isWhole_whole _) gM (Memref.isWhole_whole _) sM (Memref.isWhole_whole _) rM (Memref.isWhole_whole _) cc0_scratch3 cc0_scratch4 b b₁ b₂ b₃) Kt := by
  rw [k0_part13_eq_skeleton]; unfold k0_part13_skel
  simp only [semSignalWord, semWaitWord, Prog.lift, Prog.bind_op, Prog.bind_ret, Prog.pure_eq_ret, wp_deviceId]
  iintro ⟨#HR, HO, ⟨H0, H1, H2⟩, Hk⟩
  iapply (step_wait' V K c (true, 2) rfl (credit_r 2)) $$ [HO H0]
  · isplitr; · iexact HR
    isplitl [HO]; · iexact HO
    iexact H0
  iintro ⟨HO, H0⟩
  iapply (step_wait' V K c (true, 3) rfl (credit_r 3)) $$ [HO H1]
  · isplitr; · iexact HR
    isplitl [HO]; · iexact HO
    iexact H1
  iintro ⟨HO, H1⟩
  iapply (step_wait' V K c (true, 4) rfl (credit_r 4)) $$ [HO H2]
  · isplitr; · iexact HR
    isplitl [HO]; · iexact HO
    iexact H2
  iintro ⟨HO, H2⟩
  iapply run_ret
  iapply Hk $$ [HO H0 H1 H2]
  isplitl [HO]; · iexact HO
  isplitl [H0]; · iexact H0
  isplitl [H1]; · iexact H1
  iexact H2

/-- The last three receive slots, and slots 0 and 2 read. -/
theorem part14 (b : BitVec 32) (Kt : _ → sProp 𝕄) :
    iprop(records V K ∗ owe c 0 ∗ recvPay V c 2 ∗ (waitIn (F := F) c (true, 5) ∗ waitIn (F := F) c (true, 0) ∗ waitIn (F := F) c (true, 1))
        ∗ ((owe c 0 ∗ recvPay V c 2 ∗ waitOut V c (true, 5) ∗ waitOut V c (true, 0) ∗ waitOut V c (true, 1)) -∗ Kt ⟨k0_pay43 (k0_pay40 (wv V c) (xo V c 0) (go V c 0)) (landed V c 0), k0_pay44 (landed V c 2)⟩))
      ⊢ run c (k0_part14 xM (Memref.isWhole_whole _) tM (Memref.isWhole_whole _) wM (Memref.isWhole_whole _) oM (Memref.isWhole_whole _) gM (Memref.isWhole_whole _) sM (Memref.isWhole_whole _) rM (Memref.isWhole_whole _) cc0_scratch3 cc0_scratch4 b (k0_pay40 (wv V c) (xo V c 0) (go V c 0))) Kt := by
  rw [k0_part14_eq_skeleton]; unfold k0_part14_skel
  simp only [semSignalWord, semWaitWord, Prog.lift, Prog.bind_op, Prog.bind_ret, Prog.pure_eq_ret, wp_deviceId]
  iintro ⟨#HR, HO, Hp, ⟨H0, H1, H2⟩, Hk⟩
  iapply (step_wait' V K c (true, 5) rfl (credit_r 5)) $$ [HO H0]
  · isplitr; · iexact HR
    isplitl [HO]; · iexact HO
    iexact H0
  iintro ⟨HO, H0⟩
  iapply (step_wait' V K c (true, 0) rfl (credit_r 0)) $$ [HO H1]
  · isplitr; · iexact HR
    isplitl [HO]; · iexact HO
    iexact H1
  iintro ⟨HO, H1⟩
  iapply (step_wait' V K c (true, 1) rfl (credit_r 1)) $$ [HO H2]
  · isplitr; · iexact HR
    isplitl [HO]; · iexact HO
    iexact H2
  iintro ⟨HO, H2⟩
  unfold waitOut
  icases H1 with ⟨Hz, Hr⟩
  ihave Hr' := (show pay V c 0 (some (true, 0)) ⊢ owns (c : Thread nD τ) (rSlot 0) fullShare (landed V c 0) from BI.Entails.refl _) $$ Hr
  iapply (slot_load c (m := rM) (r := rct 0) (hr := fun _ => rfl) (landed V c 0)) $$ Hr'; iintro Hr'
  ihave Hr := (show owns (c : Thread nD τ) (rSlot 0) fullShare (landed V c 0) ⊢ pay V c 0 (some (true, 0)) from BI.Entails.refl _) $$ Hr'
  unfold recvPay
  iapply (slot_load c (m := rM) (r := rct 2) (hr := fun _ => rfl) (landed V c 2)) $$ Hp; iintro Hp
  iapply run_ret
  iapply Hk $$ [HO Hp H0 Hz Hr H2]
  isplitl [HO]; · iexact HO
  isplitl [Hp]; · iexact Hp
  isplitl [H0]; · iexact H0
  isplitl [Hz Hr]
  · isplitl [Hz]; · iexact Hz
    iexact Hr
  iexact H2

end Cert.Moe

end
-- ==== Proof.Body.lean ====
/-
The whole body of the kernel on one device: from the slots, the semaphores' positions and the rights to
credit, to the device's block of the result.
-/
module

public import proofs.«01_k».proof.Proof.PartsC

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Ops F) (K : Dev nD × CI → ℕ) (c : Dev nD)

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- Two gathered halves stored one after the other are the device's block of the result. -/
theorem out_put (Y : S256x512.Idx → Elt F .f32) :
    VecWindow.put (s := S256x512) (VecWindow.put (s := S256x512) Y ![0, 0] S128x512.size (out0 V c)) ![128, 0] S128x512.size (out1 V c) = out V c :=
  stack2_put _ _ _
theorem gates_put (G : S1024x4.Idx → Elt F .bf16) :
    VecWindow.put (s := S1024x4) (VecWindow.put (s := S1024x4) (VecWindow.put (s := S1024x4) (VecWindow.put (s := S1024x4) G
      ![0, 0] S256x4.size (gate0 (V c).rt c)) ![256, 0] S256x4.size (gate1 (V c).rt c)) ![512, 0] S256x4.size (gate2 (V c).rt c)) ![768, 0] S256x4.size (gate3 (V c).rt c)
      = gates (V c).rt c := stack4_put _ _ _ _ _

/-- The positions of a device at its thirteen semaphores, and the rights to credit it spends. -/
def ghost : sProp 𝕄 :=
  iprop((atPos ER (cell c bar) 0 ∅ 0 ∗ (bigSep Finset.univ fun i : Fin 6 => atPos ER (cell c (snd i)) 0 ∅ 0)
      ∗ bigSep Finset.univ fun i : Fin 6 => atPos ER (cell c (rcv i)) 0 ∅ 0)
    ∗ (dutyTok ER (cell (sh c 1) bar) 0 0 ∗ dutyTok ER (cell (sh c 2) bar) 0 1 ∗ dutyTok ER (cell (sh c 3) bar) 0 2)
    ∗ (bigSep Finset.univ fun i : Fin 6 => dutyTok ER (cell c (snd i)) 0 0)
    ∗ bigSep Finset.univ fun i : Fin 6 => dutyTok ER (cell (tgt c i) (rcv (land i))) 0 0)
/-- The credits the device will wait for. -/
def credits : sProp 𝕄 :=
  iprop(cred (tallyAt (cell c bar) () 3) ∗ bigSep Finset.univ fun r : Fin 6 => cred (tallyAt (cell c (rcv r)) () N))
/-- The three scratch buffers, the slots apart. -/
def scratch : sProp 𝕄 :=
  iprop((∃ G, gAt (F := F) c G) ∗ (bigSep Finset.univ fun i : Fin 6 => anyS (F := F) c i) ∗ bigSep Finset.univ fun r : Fin 6 => anyR (F := F) c r)
/-- All thirteen semaphores at zero. -/
def zeros : sProp 𝕄 :=
  iprop(semVal (cell c bar) 0 ∗ (bigSep Finset.univ fun i : Fin 6 => semVal (cell c (snd i)) 0) ∗ bigSep Finset.univ fun i : Fin 6 => semVal (cell c (rcv i)) 0)

theorem pay_send (i : Fin 6) : pay V c 0 (some (false, i)) ⊢ sendPay V c i := BI.Entails.refl _
theorem pay_recv (r : Fin 6) : pay V c 0 (some (true, r)) ⊢ recvPay V c r := BI.Entails.refl _
abbrev slotAt (r : Fin 6) (X : S1x128x512.Idx → Elt F .bf16) : sProp 𝕄 :=
  owns (Ix := Unit) (Name := ℕ) (U := UU) (Lvl := ℕ) (c : Thread nD τ) (rM.slice (rct r) fun _ => rfl) fullShare X
theorem recvPay_open (r : Fin 6) : recvPay V c r ⊢ slotAt c r (landed V c r) := BI.Entails.refl _
theorem recvPay_close (r : Fin 6) : slotAt c r (landed V c r) ⊢ recvPay V c r := BI.Entails.refl _
theorem anyS_of (i : Fin 6) : sendPay V c i ⊢ anyS (F := F) c i := by
  unfold sendPay anyS; iintro H; iexists _; iexact H
theorem anyR_of (r : Fin 6) : recvPay V c r ⊢ anyR (F := F) c r := by
  unfold recvPay anyR; iintro H; iexists _; iexact H

set_option maxHeartbeats 1600000 in
/-- The body of device `c`: it ends with nothing owed, every semaphore at zero, the operands as they
    were and the result block at the sum of its own product and the three received slabs. -/
theorem body_run (Kt : PUnit → sProp 𝕄) :
    iprop(records V K ∗ levAts L lv ∗ ghost (F := F) c ∗ credits (F := F) c ∗ scratch (F := F) c ∗ owe c (O₀ c)
        ∗ xAt V c ∗ tAt V c ∗ wAt V c ∗ (∃ Y, oAt c Y)
        ∗ ((zeros (F := F) c ∗ scratch (F := F) c ∗ owe c 0 ∗ xAt V c ∗ tAt V c ∗ wAt V c ∗ oAt c (out V c)) -∗ Kt ⟨⟩))
      ⊢ run c (cc0_body xM (Memref.isWhole_whole _) tM (Memref.isWhole_whole _) wM (Memref.isWhole_whole _) oM (Memref.isWhole_whole _) gM (Memref.isWhole_whole _) sM (Memref.isWhole_whole _) rM (Memref.isWhole_whole _) cc0_scratch3 cc0_scratch4) Kt := by
  rw [cc0_body_eq_skeleton]; unfold cc0_body_skel run
  unfold ghost credits scratch
  simp only [bigSep_fin6]
  iintro ⟨#HR, #Hlev, ⟨⟨HaB, ⟨HaS0, HaS1, HaS2, HaS3, HaS4, HaS5⟩, HaR0, HaR1, HaR2, HaR3, HaR4, HaR5⟩, ⟨Ht1, Ht2, Ht3⟩,
    ⟨HtS0, HtS1, HtS2, HtS3, HtS4, HtS5⟩, HtR0, HtR1, HtR2, HtR3, HtR4, HtR5⟩, ⟨HcB, HcR0, HcR1, HcR2, HcR3, HcR4, HcR5⟩,
    ⟨⟨%G, Hg⟩, ⟨Hs0, Hs1, Hs2, Hs3, Hs4, Hs5⟩, Hr⟩, HO, Hx, Ht, Hw, ⟨%Y, Ho⟩, Hk⟩
  rw [wp_bind]
  iapply (part1 V K c _)
  isplitr; · iexact HR
  isplitr; · iexact Hlev
  isplitl [HO]; · iexact HO
  isplitl [HcB]; · iexact HcB
  isplitl [HaB]; · iexact HaB
  isplitl [Ht1]; · iexact Ht1
  isplitl [Ht2]; · iexact Ht2
  isplitl [Ht3]; · iexact Ht3
  isplitl [Hr]; · iexact Hr
  isplitl [Ht]; · iexact Ht
  iintro ⟨HO, HzB, Hb, Ht⟩
  unfold barPay
  icases Hb with ⟨⟨Hd4, Hd5⟩, ⟨Hd0, Hd1⟩, ⟨Hd2, Hd3⟩⟩
  dsimp only
  rw [wp_bind]
  iapply (part2 V c G _)
  isplitl [Hg]; · iexact Hg
  iintro Hg
  dsimp only
  rw [wp_bind]
  iapply (part3 V c _ _)
  isplitl [Hg]; · iexact Hg
  iintro Hg
  dsimp only
  rw [wp_bind]
  iapply (part4 V c _ (gates_put V c G) _)
  isplitl [Hg]; · iexact Hg
  isplitl [Hx]; · iexact Hx
  isplitl [Hw]; · iexact Hw
  iintro ⟨Hg, Hx, Hw⟩ %b
  dsimp only
  rw [wp_bind]
  iapply (part5 V K c b _)
  isplitr; · iexact HR
  isplitl [Hs0 Hd0 HtS0 HtR0]
  · unfold pushIn
    isplitl [Hs0]; · iexact Hs0
    isplitl [Hd0]; · iexact Hd0
    isplitl [HtS0]; · iexact HtS0
    iexact HtR0
  isplitl [HO]; · iexact HO
  isplitl [Hg]; · iexact Hg
  isplitl [Hx]; · iexact Hx
  iintro ⟨HcS0, HO, Hg, Hx⟩
  dsimp only
  rw [wp_bind]
  iapply (part6 V K c b _)
  isplitr; · iexact HR
  isplitl [Hs1 Hd1 HtS1 HtR1]
  · unfold pushIn
    isplitl [Hs1]; · iexact Hs1
    isplitl [Hd1]; · iexact Hd1
    isplitl [HtS1]; · iexact HtS1
    iexact HtR1
  isplitl [HO]; · iexact HO
  isplitl [Hg]; · iexact Hg
  isplitl [Hx]; · iexact Hx
  iintro ⟨HcS1, HO, Hg, Hx⟩ %b6
  dsimp only
  rw [wp_bind]
  iapply (part7 V K c b6 _)
  isplitr; · iexact HR
  isplitl [Hs2 Hd2 HtS2 HtR2]
  · unfold pushIn
    isplitl [Hs2]; · iexact Hs2
    isplitl [Hd2]; · iexact Hd2
    isplitl [HtS2]; · iexact HtS2
    iexact HtR2
  isplitl [HO]; · iexact HO
  isplitl [Hg]; · iexact Hg
  isplitl [Hx]; · iexact Hx
  iintro ⟨HcS2, HO, Hg, Hx⟩
  rw [wp_bind]
  iapply (part8 V K c b6 _)
  isplitr; · iexact HR
  isplitl [Hs3 Hd3 HtS3 HtR3]
  · unfold pushIn
    isplitl [Hs3]; · iexact Hs3
    isplitl [Hd3]; · iexact Hd3
    isplitl [HtS3]; · iexact HtS3
    iexact HtR3
  isplitl [HO]; · iexact HO
  isplitl [Hg]; · iexact Hg
  isplitl [Hx]; · iexact Hx
  iintro ⟨HcS3, HO, Hg, Hx⟩ %b8
  dsimp only
  rw [wp_bind]
  iapply (part9 V K c b8 _)
  isplitr; · iexact HR
  isplitl [Hs4 Hd4 HtS4 HtR4]
  · unfold pushIn
    isplitl [Hs4]; · iexact Hs4
    isplitl [Hd4]; · iexact Hd4
    isplitl [HtS4]; · iexact HtS4
    iexact HtR4
  isplitl [HO]; · iexact HO
  isplitl [Hg]; · iexact Hg
  isplitl [Hx]; · iexact Hx
  iintro ⟨HcS4, HO, Hg, Hx⟩
  rw [wp_bind]
  iapply (part10 V K c b8 _)
  isplitr; · iexact HR
  isplitl [Hs5 Hd5 HtS5 HtR5]
  · unfold pushIn
    isplitl [Hs5]; · iexact Hs5
    isplitl [Hd5]; · iexact Hd5
    isplitl [HtS5]; · iexact HtS5
    iexact HtR5
  isplitl [HO]; · iexact HO
  isplitl [Hg]; · iexact Hg
  isplitl [Hx]; · iexact Hx
  iintro ⟨HcS5, HO, Hg, Hx⟩
  dsimp only
  rw [wp_bind]
  iapply (part11 V K c _)
  isplitr; · iexact HR
  isplitl [HO]; · iexact HO
  isplitl [Hg]; · iexact Hg
  isplitl [HcS0 HaS0 HcS1 HaS1]
  · unfold waitIn
    isplitl [HcS0 HaS0]
    · isplitl [HcS0] <;> iassumption
    isplitl [HcS1] <;> iassumption
  iintro ⟨HO, Hg, HwS0, HwS1⟩
  unfold waitOut
  icases HwS0 with ⟨HzS0, Hps0⟩
  ihave Hps0 := (pay_send V c 0) $$ Hps0
  icases HwS1 with ⟨HzS1, Hps1⟩
  ihave Hps1 := (pay_send V c 1) $$ Hps1
  rw [wp_bind]
  iapply (part12 V K c b _)
  isplitr; · iexact HR
  isplitl [HO]; · iexact HO
  isplitl [HcS2 HaS2 HcS3 HaS3 HcS4 HaS4 HcS5 HaS5]
  · unfold waitIn
    isplitl [HcS2 HaS2]
    · isplitl [HcS2] <;> iassumption
    isplitl [HcS3 HaS3]
    · isplitl [HcS3] <;> iassumption
    isplitl [HcS4 HaS4]
    · isplitl [HcS4] <;> iassumption
    isplitl [HcS5] <;> iassumption
  iintro ⟨HO, HwS2, HwS3, HwS4, HwS5⟩ %b12 %b12'
  unfold waitOut
  icases HwS2 with ⟨HzS2, Hps2⟩
  ihave Hps2 := (pay_send V c 2) $$ Hps2
  icases HwS3 with ⟨HzS3, Hps3⟩
  ihave Hps3 := (pay_send V c 3) $$ Hps3
  icases HwS4 with ⟨HzS4, Hps4⟩
  ihave Hps4 := (pay_send V c 4) $$ Hps4
  icases HwS5 with ⟨HzS5, Hps5⟩
  ihave Hps5 := (pay_send V c 5) $$ Hps5
  dsimp only
  rw [wp_bind]
  iapply (part13 V K c b b6 b12 b12' _)
  isplitr; · iexact HR
  isplitl [HO]; · iexact HO
  isplitl [HcR2 HaR2 HcR3 HaR3 HcR4 HaR4]
  · unfold waitIn
    isplitl [HcR2 HaR2]
    · isplitl [HcR2] <;> iassumption
    isplitl [HcR3 HaR3]
    · isplitl [HcR3] <;> iassumption
    isplitl [HcR4] <;> iassumption
  iintro ⟨HO, HwR2, HwR3, HwR4⟩
  unfold waitOut
  icases HwR2 with ⟨HzR2, Hp2⟩
  ihave Hp2 := (pay_recv V c 2) $$ Hp2
  icases HwR3 with ⟨HzR3, Hp3⟩
  ihave Hp3 := (pay_recv V c 3) $$ Hp3
  icases HwR4 with ⟨HzR4, Hp4⟩
  ihave Hp4 := (pay_recv V c 4) $$ Hp4
  rw [wp_bind]
  iapply (part14 V K c b8 _)
  isplitr; · iexact HR
  isplitl [HO]; · iexact HO
  isplitl [Hp2]; · iexact Hp2
  isplitl [HcR5 HaR5 HcR0 HaR0 HcR1 HaR1]
  · unfold waitIn
    isplitl [HcR5 HaR5]
    · isplitl [HcR5] <;> iassumption
    isplitl [HcR0 HaR0]
    · isplitl [HcR0] <;> iassumption
    isplitl [HcR1] <;> iassumption
  iintro ⟨HO, Hp2, HwR5, HwR0, HwR1⟩
  unfold waitOut
  icases HwR5 with ⟨HzR5, Hp5⟩
  ihave Hp5 := (pay_recv V c 5) $$ Hp5
  icases HwR0 with ⟨HzR0, Hp0⟩
  ihave Hp0 := (pay_recv V c 0) $$ Hp0
  icases HwR1 with ⟨HzR1, Hp1⟩
  ihave Hp1 := (pay_recv V c 1) $$ Hp1
  dsimp only
  simp only [semSignalWord, semWaitWord, Prog.lift, Prog.bind_op, Prog.bind_ret, Prog.pure_eq_ret, wp_deviceId]
  ihave Hp4 := (recvPay_open V c 4) $$ Hp4
  iapply (slot_load c (m := rM) (r := rct 4) (hr := fun _ => rfl) (landed V c 4)) $$ [Hp4]; · iexact Hp4
  iintro Hp4
  iapply (owns_load c (m := oM) rfl inb_S256x512_S128x512_0_0 Y) $$ Ho; iintro Ho
  iapply (owns_store c (m := oM) Y) $$ Ho; iintro Ho
  ihave Hp1 := (recvPay_open V c 1) $$ Hp1
  iapply (slot_load c (m := rM) (r := rct 1) (hr := fun _ => rfl) (landed V c 1)) $$ [Hp1]; · iexact Hp1
  iintro Hp1
  ihave Hp3 := (recvPay_open V c 3) $$ Hp3
  iapply (slot_load c (m := rM) (r := rct 3) (hr := fun _ => rfl) (landed V c 3)) $$ [Hp3]; · iexact Hp3
  iintro Hp3
  ihave Hp5 := (recvPay_open V c 5) $$ Hp5
  iapply (slot_load c (m := rM) (r := rct 5) (hr := fun _ => rfl) (landed V c 5)) $$ [Hp5]; · iexact Hp5
  iintro Hp5
  iapply (owns_load c (m := oM) rfl inb_S256x512_S128x512_128_0 _) $$ Ho; iintro Ho
  iapply (owns_store c (m := oM) _) $$ Ho; iintro Ho
  iapply run_ret
  iapply Hk
  unfold zeros
  simp only [bigSep_fin6]
  isplitl [HzB HzS0 HzS1 HzS2 HzS3 HzS4 HzS5 HzR0 HzR1 HzR2 HzR3 HzR4 HzR5]
  · isplitl [HzB]; · iexact HzB
    isplitl [HzS0 HzS1 HzS2 HzS3 HzS4 HzS5]
    · isplitl [HzS0]; · iexact HzS0
      isplitl [HzS1]; · iexact HzS1
      isplitl [HzS2]; · iexact HzS2
      isplitl [HzS3]; · iexact HzS3
      isplitl [HzS4]; · iexact HzS4
      iexact HzS5
    isplitl [HzR0]; · iexact HzR0
    isplitl [HzR1]; · iexact HzR1
    isplitl [HzR2]; · iexact HzR2
    isplitl [HzR3]; · iexact HzR3
    isplitl [HzR4]; · iexact HzR4
    iexact HzR5
  isplitl [Hg Hps0 Hps1 Hps2 Hps3 Hps4 Hps5 Hp0 Hp1 Hp2 Hp3 Hp4 Hp5]
  · isplitl [Hg]; · iexists _; iexact Hg
    isplitl [Hps0 Hps1 Hps2 Hps3 Hps4 Hps5]
    · isplitl [Hps0]; · iapply (anyS_of V c 0); iexact Hps0
      isplitl [Hps1]; · iapply (anyS_of V c 1); iexact Hps1
      isplitl [Hps2]; · iapply (anyS_of V c 2); iexact Hps2
      isplitl [Hps3]; · iapply (anyS_of V c 3); iexact Hps3
      isplitl [Hps4]; · iapply (anyS_of V c 4); iexact Hps4
      iapply (anyS_of V c 5); iexact Hps5
    isplitl [Hp0]; · iapply (anyR_of V c 0); iexact Hp0
    isplitl [Hp1]; · iapply (anyR_of V c 1); iapply (recvPay_close V c 1); iexact Hp1
    isplitl [Hp2]; · iapply (anyR_of V c 2); iexact Hp2
    isplitl [Hp3]; · iapply (anyR_of V c 3); iapply (recvPay_close V c 3); iexact Hp3
    isplitl [Hp4]; · iapply (anyR_of V c 4); iapply (recvPay_close V c 4); iexact Hp4
    iapply (anyR_of V c 5); iapply (recvPay_close V c 5); iexact Hp5
  isplitl [HO]; · iexact HO
  isplitl [Hx]; · iexact Hx
  isplitl [Ht]; · iexact Ht
  isplitl [Hw]; · iexact Hw
  rw [← out_put V c Y]
  iexact Ho

end Cert.Moe

end
-- ==== Proof.Deal.lean ====
/-
What the launch deals out: the thirteen semaphores of every device become cells of the protocol, the
rights to credit them go to the devices that will, and what the devices owe at the start is the credit
the others wait for.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A conjunction over the thirteen semaphores: the barrier, the send and the receive semaphores. -/
theorem bigSep_CI (Φ : CI → sProp 𝕄) : bigSep Finset.univ Φ
    = iprop(Φ bar ∗ (bigSep Finset.univ fun i : Fin 6 => Φ (snd i)) ∗ bigSep Finset.univ fun i : Fin 6 => Φ (rcv i)) := by
  let e : (Unit ⊕ (Fin 6 ⊕ Fin 6)) ≃ CI :=
    { toFun := fun | .inl _ => bar | .inr (.inl i) => snd i | .inr (.inr i) => rcv i
      invFun := fun | none => .inl () | some (false, i) => .inr (.inl i) | some (true, i) => .inr (.inr i)
      left_inv := by rintro (_ | _ | _) <;> rfl
      right_inv := by rintro (_ | ⟨_ | _, _⟩) <;> rfl }
  rw [bigSep_univ_equiv e, bigSep_univ_sum, bigSep_univ_sum]
  exact congrArg (fun P => iprop(P ∗ _)) (bigSep_univ_eq_bigSepL [()] (by decide) (by decide) _)

theorem bigSep_own (Φ : Bool × Fin 6 → sProp 𝕄) : bigSep Finset.univ Φ
    = iprop((bigSep Finset.univ fun i : Fin 6 => Φ (false, i)) ∗ bigSep Finset.univ fun i : Fin 6 => Φ (true, i)) := by
  rw [bigSep_univ_prod]; exact bigSep_univ_eq_bigSepL [false, true] (by decide) (by decide) _

/-! ## The cells and the rights to credit them, as minted -/

theorem kcell_injective : Function.Injective kcell := fun a b h =>
  Prod.ext (cell_inj (k := a.2) (l := b.2) h).1 (cell_inj (k := a.2) (l := b.2) h).2
def allCells : Finset (GSem nD τ sig) := Finset.univ.map ⟨kcell, kcell_injective⟩

/-- A right to credit, by the cell it is for: one of the barrier's three, or the one of a DMA semaphore. -/
abbrev TI : Type := Fin 3 ⊕ (Bool × Fin 6)
abbrev tokAt (p : Dev nD × TI) : GSem nD τ sig × ℕ × Fin 3 := match p.2 with
  | .inl k => (cell p.1 bar, 0, k)
  | .inr q => (cell p.1 (some q), 0, 0)
theorem tokAt_injective : Function.Injective tokAt := by
  rintro ⟨c, a | a⟩ ⟨d, b | b⟩ h
  · have h1 := cell_inj (congrArg Prod.fst h)
    have h2 : a = b := congrArg (fun x : GSem nD τ sig × ℕ × Fin 3 => x.2.2) h
    rw [h2]; exact Prod.ext h1.1 rfl
  · exact absurd (cell_inj (congrArg Prod.fst h)).2 (fun h => by cases h)
  · exact absurd (cell_inj (congrArg Prod.fst h)).2 (fun h => by cases h)
  · have h1 := cell_inj (congrArg Prod.fst h)
    rw [Option.some.inj h1.2]; exact Prod.ext h1.1 rfl
def allToks : Finset (GSem nD τ sig × ℕ × Fin 3) := Finset.univ.map ⟨tokAt, tokAt_injective⟩

/-- The rights to credit device `c`'s own cells. -/
def minted (c : Dev nD) : sProp 𝕄 :=
  iprop((bigSep Finset.univ fun k : Fin 3 => dutyTok ER (cell c bar) 0 k)
    ∗ (bigSep Finset.univ fun i : Fin 6 => dutyTok ER (cell c (snd i)) 0 0)
    ∗ bigSep Finset.univ fun i : Fin 6 => dutyTok ER (cell c (rcv i)) 0 0)
/-- The rights device `c` spends. -/
def spent (c : Dev nD) : sProp 𝕄 :=
  iprop((bigSep Finset.univ fun k : Fin 3 => dutyTok ER (cell (sh c (k.val + 1)) bar) 0 k)
    ∗ (bigSep Finset.univ fun i : Fin 6 => dutyTok ER (cell c (snd i)) 0 0)
    ∗ bigSep Finset.univ fun i : Fin 6 => dutyTok ER (cell (tgt c i) (rcv (land i))) 0 0)

/-- Whose barrier a signal is for, and the slot a copy lands in: both are permutations of all pairs. -/
def sigE : Dev nD × Fin 3 ≃ Dev nD × Fin 3 where
  toFun p := (sh p.1 (p.2.val + 1), p.2)
  invFun p := (sh p.1 (3 - p.2.val), p.2)
  left_inv := by decide
  right_inv := by decide
def copyE : Dev nD × Fin 6 ≃ Dev nD × Fin 6 where
  toFun p := (tgt p.1 p.2, land p.2)
  invFun p := (src p.1 p.2, unland p.2)
  left_inv := by decide
  right_inv := by decide

/-- The rights, dealt to the devices that spend them. -/
theorem deal_toks : (bigSep Finset.univ fun c : Dev nD => (minted c : sProp 𝕄)) ⊢ bigSep Finset.univ fun c : Dev nD => spent c := by
  unfold minted spent
  rw [bigSep_sep', bigSep_sep', bigSep_sep', bigSep_sep',
    ← bigSep_univ_prod (fun p : Dev nD × Fin 3 => (dutyTok ER (cell p.1 bar) 0 p.2 : sProp 𝕄)),
    ← bigSep_univ_prod (fun p : Dev nD × Fin 6 => (dutyTok ER (cell p.1 (rcv p.2)) 0 0 : sProp 𝕄)),
    ← bigSep_univ_prod (fun p : Dev nD × Fin 3 => (dutyTok ER (cell (sh p.1 (p.2.val + 1)) bar) 0 p.2 : sProp 𝕄)),
    ← bigSep_univ_prod (fun p : Dev nD × Fin 6 => (dutyTok ER (cell (tgt p.1 p.2) (rcv (land p.2))) 0 0 : sProp 𝕄)),
    bigSep_univ_equiv sigE (fun p : Dev nD × Fin 3 => (dutyTok ER (cell p.1 bar) 0 p.2 : sProp 𝕄)),
    bigSep_univ_equiv copyE (fun p : Dev nD × Fin 6 => (dutyTok ER (cell p.1 (rcv p.2)) 0 0 : sProp 𝕄))]
  exact BI.Entails.refl _

variable (V : Dev nD → Ops F)

/-- What each device is dealt at first. -/
def G₀ (c : Dev nD) : sProp 𝕄 :=
  iprop((bigSep Finset.univ fun k : CI => roundState ER (Rd V) (cell c k) 0)
    ∗ (bigSep Finset.univ fun k : CI => iprop(atPos ER (cell c k) 0 ∅ 0 ∗ reached ER (cell c k) 0)) ∗ minted c)
/-- What it holds once the invariants stand. -/
def G₁ (c : Dev nD) : sProp 𝕄 := iprop(∃ K, records V K ∗ ghost c)

theorem fund_all : BI.own (ER (initOf allCells allToks)) ⊢ (|==> bigSep Finset.univ (G₀ V) : sProp 𝕄) := by
  have hX (Φ : GSem nD τ sig → sProp 𝕄) : bigSep allCells Φ = bigSep Finset.univ fun c : Dev nD => bigSep Finset.univ fun k : CI => Φ (cell c k) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    refine bigSep_congr fun c _ => ?_
    rw [bigSep_univ_sum, bigSep_own]; rfl
  iintro HX
  imod (Rounds.fund ER (Rd V) allCells allToks) $$ HX with ⟨Hst, Hr, Hat, Htok⟩
  imodintro
  ihave Hst' := (Entails.of_eq (hX fun g => roundState ER (Rd V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G₀; simp only [bigSep_sep']
  isplitl [Hst']; · iexact Hst'
  isplitl [Hat' Hr']
  · isplitl [Hat'] <;> iassumption
  iexact Htok'

/-! ## The semaphores -/

theorem ownSems_eq (c : Dev nD) : (Pipeline.ownSems0 (Ix := Unit) (Name := ℕ) (U := UU) (Lvl := ℕ) (Val := Elt F) (τ := τ) osem c : sProp 𝕄)
    = iprop((bigSep Finset.univ fun i : Fin 6 => semVal (cell c (snd i)) 0) ∗ bigSep Finset.univ fun i : Fin 6 => semVal (cell c (rcv i)) 0) := by
  unfold Pipeline.ownSems0; rw [bigSep_own]; rfl
theorem unscopedSems_eq (c : Dev nD) : (unscopedSems0 c : sProp 𝕄) = semVal (cell c bar) 0 := by
  unfold unscopedSems0; rw [bigSep_eq_bigSepL_of_eq [SemLoc.reg barS] (by decide) (by decide)]; rfl
theorem sems_all (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (cell c k) 0 : sProp 𝕄) := by
  rw [ownSems_eq, unscopedSems_eq, bigSep_CI]
  iintro ⟨H, HB⟩
  isplitl [HB] <;> iassumption

/-- One device's invariants, allocated from its semaphores and what it was dealt. -/
theorem alloc (c : Dev nD) :
    iprop(Pipeline.ownSems0 (Ix := Unit) (Name := ℕ) (U := UU) (Lvl := ℕ) (Val := Elt F) (τ := τ) osem c ∗ unscopedSems0 c ∗ G₀ V c)
      ⊢ |={Set.univ}=> iprop((bigSep Finset.univ fun k : CI => iprop(∃ κ : ℕ, cellInv ER (Rd V) κ (cell c k)))
          ∗ (bigSep Finset.univ fun k : CI => iprop(atPos ER (cell c k) 0 ∅ 0 ∗ reached ER (cell c k) 0)) ∗ minted c) := by
  unfold G₀
  iintro ⟨Hos, Hus, Hst, Hat, Htok⟩
  ihave Hv := (sems_all (F := F) c) $$ [Hos Hus]
  · isplitl [Hos] <;> iassumption
  imod (show iprop((bigSep Finset.univ fun k : CI => semVal (cell c k) 0) ∗ bigSep Finset.univ fun k : CI => roundState ER (Rd V) (cell c k) 0)
      ⊢ (|={Set.univ}=> bigSep Finset.univ fun k : CI => iprop(∃ κ : ℕ, cellInv ER (Rd V) κ (cell c k)) : sProp 𝕄) from by
        rw [← bigSep_sep']
        exact (bigSep_mono fun k _ => (Rounds.body_intro ER (Rd V) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- A device's positions and the rights it spends are its part of the protocol. -/
theorem ghost_of (c : Dev nD) : iprop((bigSep Finset.univ fun k : CI => atPos ER (cell c k) 0 ∅ 0) ∗ spent c) ⊢ (ghost c : sProp 𝕄) := by
  rw [bigSep_CI]; unfold spent ghost
  rw [bigSep_univ_eq_bigSepL [0, 1, 2] (by decide) (by decide) (fun k : Fin 3 => (dutyTok ER (cell (sh c (k.val + 1)) bar) 0 k : sProp 𝕄))]
  exact BI.Entails.refl _

theorem spread {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k : CI => iprop(∃ κ : ℕ, cellInv ER (Rd V) κ (cell c k)))
          ∗ (bigSep Finset.univ fun k : CI => iprop(atPos ER (cell c k) 0 ∅ 0 ∗ reached ER (cell c k) 0)) ∗ minted c) : sProp 𝕄)
      ⊢ bigSep Finset.univ (G₁ V) := by
  rw [bigSep_sep', bigSep_sep', ← bigSep_univ_prod (fun p : Dev nD × CI => iprop(∃ κ : ℕ, cellInv ER (Rd V) κ (kcell p))),
    bigSep_congr (s := Finset.univ) (fun (c : Dev nD) _ => bigSep_sep' Finset.univ (fun k : CI => (atPos ER (cell c k) 0 ∅ 0 : sProp 𝕄)) (fun k => reached ER (cell c k) 0)),
    bigSep_sep', ← bigSep_univ_prod (fun p : Dev nD × CI => (reached ER (kcell p) 0 : sProp 𝕄))]
  iintro ⟨HI, ⟨Hat, #HR⟩, Htok⟩
  ihave HK := (BI.bigSep_exists_pi Finset.univ (fun (p : Dev nD × CI) (κ : ℕ) => (cellInv ER (Rd V) κ (kcell p) : sProp 𝕄))) $$ HI
  icases HK with ⟨%K, #HI⟩
  ihave Htk := (deal_toks (F := F)) $$ Htok
  iapply (spread (R := records V K) (Φ := fun c => iprop((bigSep Finset.univ fun k : CI => atPos ER (cell c k) 0 ∅ 0) ∗ spent c)) fun c => by
    unfold G₁
    iintro ⟨#H, Hl⟩
    iexists K
    isplitr; · iexact H
    iapply (ghost_of c); iexact Hl)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G₀ V c) : sProp 𝕄)
    ⊢ |={Set.univ}=> bigSep Finset.univ (G₁ V) :=
  ((bigSep_mono fun c _ => alloc V c).trans (bigSep_fupd _ _)).trans (BI.fupd_mono (regroup V))

/-! ## What is owed at the start is what is waited for -/

theorem tally_cell (a c : Dev nD) (k l : CI) (n : ℕ) :
    (tallyAt (cell a k) () n : CellTallies nD τ sig Unit) (cell c l) () = n * (if a = c ∧ k = l then 1 else 0) := by
  rw [tallyAt_apply]
  by_cases h : a = c ∧ k = l
  · obtain ⟨rfl, rfl⟩ := h; simp
  · rw [if_neg h, if_neg (fun h' => h ⟨(cell_inj h'.1).1.symm, (cell_inj h'.1).2.symm⟩), Nat.mul_zero]

/-- How many of the copies `d` issues land in the cell `l` of `c`, and how many of its signals. -/
def copies (d c : Dev nD) (l : CI) : ℕ := ∑ i : Fin 6, if tgt d i = c ∧ rcv (land i) = l then 1 else 0
def signals (d c : Dev nD) (l : CI) : ℕ := ∑ k : Fin 3, if sh d (k.val + 1) = c ∧ bar = l then 1 else 0

theorem owed_at (d c : Dev nD) (l : CI) : O₀ d (cell c l) () = N * copies d c l + signals d c l := by
  unfold O₀ copies signals
  simp only [owesB, owesS, Pi.add_apply, Finsupp.add_apply, tally_cell, Fin.sum_univ_succ, Pi.zero_apply, Finsupp.zero_apply]
  simp only [Finset.univ_eq_empty, Finset.sum_empty]
  simp only [mul_add]
  generalize N = n

  simp [Fin.succ]
  ac_rfl

theorem copies_rcv (c : Dev nD) (r : Fin 6) : ∑ d : Dev nD, copies d c (rcv r) = 1 := by revert c r; decide +kernel
theorem signals_rcv (c : Dev nD) (r : Fin 6) : ∑ d : Dev nD, signals d c (rcv r) = 0 := by revert c r; decide +kernel
theorem copies_bar (c : Dev nD) : ∑ d : Dev nD, copies d c bar = 0 := by revert c; decide +kernel
theorem signals_bar (c : Dev nD) : ∑ d : Dev nD, signals d c bar = 3 := by revert c; decide +kernel

theorem launch_at (c : Dev nD) (l : CI) (n : ℕ) (h : N * (∑ d : Dev nD, copies d c l) + ∑ d : Dev nD, signals d c l = n) :
    tallyOn (cell c l) (launchCredit (Pipeline.owing O₀) 0 (cell c l)) = (tallyAt (cell c l) () n : CellTallies nD τ sig Unit) := by
  unfold tallyAt; refine congrArg _ (Finsupp.ext fun u => ?_); cases u
  rw [Pipeline.launchCredit_owing, Finsupp.single_eq_same, Finset.sum_congr rfl fun d _ => owed_at d c l, Finset.sum_add_distrib,
    ← Finset.mul_sum, h]

theorem credits_of (c : Dev nD) : (Pipeline.launchCred O₀ c : sProp 𝕄) ⊢ credits c := by
  unfold Pipeline.launchCred credits
  refine (bigSep_subset (Finset.subset_univ (Finset.univ.map ⟨csem, csem_injective⟩))).trans ?_
  rw [bigSep_map, bigSep_CI]
  show iprop(cred (tallyOn (cell c bar) (launchCredit (Pipeline.owing O₀) 0 (cell c bar)))
      ∗ (bigSep Finset.univ fun i : Fin 6 => cred (tallyOn (cell c (snd i)) (launchCredit (Pipeline.owing O₀) 0 (cell c (snd i)))))
      ∗ bigSep Finset.univ fun r : Fin 6 => cred (tallyOn (cell c (rcv r)) (launchCredit (Pipeline.owing O₀) 0 (cell c (rcv r)))))
    ⊢ (iprop(cred (tallyAt (cell c bar) () 3) ∗ bigSep Finset.univ fun r : Fin 6 => cred (tallyAt (cell c (rcv r)) () N)) : sProp 𝕄)
  iintro ⟨HB, -, HR⟩
  isplitl [HB]
  · iapply (show _ ⊢ cred (tallyAt (cell c bar) () 3) from Entails.of_eq (congrArg cred (launch_at c bar 3 (by rw [copies_bar, signals_bar, Nat.mul_zero, Nat.zero_add]))))
    iexact HB
  · iapply (show _ ⊢ (bigSep Finset.univ fun r : Fin 6 => cred (tallyAt (cell c (rcv r)) () N)) from
      bigSep_mono fun r _ => Entails.of_eq (congrArg cred (launch_at c (rcv r) N (by rw [copies_rcv, signals_rcv, Nat.mul_one, Nat.add_zero]))))
    iexact HR

end Cert.Moe

end
-- ==== Proof.Run.lean ====
/-
The launch: from any memory with zero counters the four devices finish, every one with its block of the
result as computed from its arguments, its arguments unchanged and all counters at zero.
-/
module

public import proofs.«01_k».proof.Proof.Deal
public import proofs.«01_k».proof.Proof.Gen.KernelIdeal.Frame
public import Idealize.ShloMosaic.Lib.Pipeline.Value
public import Idealize.ShloMosaic.Lib.Pipeline.CollectiveSegs
public import Idealize.ShloMosaic.Lib.ViewIndex

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix3)

variable {F : FTy → Type} [FloatOps F]

local notation "𝕄" => MT nD τ sig Unit (Elt F) ℕ UU ℕ

/-! ## The scratch buffers, slot by slot -/

theorem rct_disjoint (i j : Fin 6) (h : i ≠ j) : Disjoint (rct i).set (rct j).set :=
  Rect.unit_disjoint 0 (by
    have h' : i.val ≠ j.val := fun e => h (Fin.ext e)
    show i.val + 1 ≤ j.val ∨ j.val + 1 ≤ i.val
    omega)
theorem rct_cover : (Finset.univ : Finset (Fin 6)).biUnion (fun i => (rct i).set) = Finset.univ := by
  refine Finset.eq_univ_iff_forall.mpr fun (i : S6x128x512.Idx) => ?_
  have h0 : (i 0).val < 6 := (i 0).isLt
  refine Finset.mem_biUnion.mpr ⟨⟨(i 0).val, h0⟩, Finset.mem_univ _, ?_⟩
  rw [Rect.mem_set_unit]
  intro a
  match a with
  | ⟨0, _⟩ => exact ⟨Nat.le_refl _, Nat.lt_succ_self _⟩
  | ⟨1, _⟩ => exact ⟨Nat.zero_le _, by have h : (i 1).val < 128 := (i 1).isLt; show (i 1).val < 0 + 128; omega⟩
  | ⟨2, _⟩ => exact ⟨Nat.zero_le _, by have h : (i 2).val < 512 := (i 2).isLt; show (i 2).val < 0 + 512; omega⟩

/-- Contents given slot by slot, as contents of the whole buffer. -/
def joined (f : Fin 6 → S1x128x512.Idx → Elt F .bf16) : S6x128x512.Idx → Elt F .bf16 :=
  fun j => f (j 0) (ix3 (0 : Fin 1) (j 1) (j 2))
theorem joined_emb (f : Fin 6 → S1x128x512.Idx → Elt F .bf16) (i : Fin 6) : (fun j => joined f ((rct i).emb j)) = f i := by
  funext (j : S1x128x512.Idx)
  have h0 : (j 0).val = 0 := by have h : (j 0).val < 1 := (j 0).isLt; omega
  have hi : ((rct i).emb j 0 : Fin 6) = i := Fin.ext (by show i.val + 1 * (j 0).val = i.val; omega)
  have hj : (ix3 (0 : Fin 1) ((rct i).emb j 1) ((rct i).emb j 2) : S1x128x512.Idx) = j :=
    Shape.idx3_ext h0.symm (by show 0 + 1 * (j 1).val = (j 1).val; omega) (by show 0 + 1 * (j 2).val = (j 2).val; omega)
  unfold joined
  rw [hi, hj]

section Slots
variable (c : Dev nD) (μ : Memref sig .tc .vmem S6x128x512 .bf16)

theorem some_slot (i : Fin 6) (Y : S1x128x512.Idx → Elt F .bf16) : (owns (c : Thread nD τ) (μ.slice (rct i) fun _ => rfl) fullShare Y : sProp 𝕄)
    ⊢ iprop(∃ Y : S1x128x512.Idx → Elt F .bf16, owns (c : Thread nD τ) (μ.slice (rct i) fun _ => rfl) fullShare Y) := by
  iintro H; iexists _; iexact H

theorem slots_apart (X : S6x128x512.Idx → Elt F .bf16) : (owns (c : Thread nD τ) μ fullShare X : sProp 𝕄)
    ⊢ bigSep Finset.univ fun i : Fin 6 => iprop(∃ Y : S1x128x512.Idx → Elt F .bf16, owns (c : Thread nD τ) (μ.slice (rct i) fun _ => rfl) fullShare Y) :=
  (owns_rects (c : Thread nD τ) μ fullShare rct (fun _ _ => rfl) rct_disjoint rct_cover X).trans (bigSep_mono fun i _ => some_slot c μ i _)

theorem slots_joined : (bigSep Finset.univ fun i : Fin 6 => iprop(∃ Y : S1x128x512.Idx → Elt F .bf16, owns (c : Thread nD τ) (μ.slice (rct i) fun _ => rfl) fullShare Y) : sProp 𝕄)
    ⊢ iprop(∃ X : S6x128x512.Idx → Elt F .bf16, owns (c : Thread nD τ) μ fullShare X) := by
  haveI : Nonempty (S1x128x512.Idx → Elt F .bf16) := ⟨fun _ => Classical.choice (Elt.nonempty F .bf16)⟩
  iintro H
  ihave H' := (BI.bigSep_exists_pi Finset.univ (fun (i : Fin 6) (Y : S1x128x512.Idx → Elt F .bf16) =>
    (owns (c : Thread nD τ) (μ.slice (rct i) fun _ => rfl) fullShare Y : sProp 𝕄))) $$ H
  icases H' with ⟨%f, H⟩
  iexists (joined f)
  iapply (owns_of_rects (c : Thread nD τ) μ fullShare rct (fun _ _ => rfl) rct_disjoint rct_cover (joined f))
  simp only [joined_emb]
  iexact H
end Slots

/-- The three scratch buffers, whole, at some contents. -/
def scratch' (c : Dev nD) : sProp 𝕄 :=
  iprop((∃ G, gAt (F := F) c G) ∗ (∃ X : S6x128x512.Idx → Elt F .bf16, owns (c : Thread nD τ) sM fullShare X)
    ∗ ∃ X : S6x128x512.Idx → Elt F .bf16, owns (c : Thread nD τ) rM fullShare X)
theorem scratch_open (c : Dev nD) : scratch' c ⊢ (scratch c : sProp 𝕄) := by
  unfold scratch' scratch anyS anyR
  iintro ⟨Hg, ⟨%X, Hs⟩, ⟨%Y, Hr⟩⟩
  isplitl [Hg]; · iexact Hg
  isplitl [Hs]
  · iapply (slots_apart c sM X); iexact Hs
  · iapply (slots_apart c rM Y); iexact Hr
theorem scratch_close (c : Dev nD) : scratch c ⊢ (scratch' c : sProp 𝕄) := by
  unfold scratch' scratch anyS anyR
  iintro ⟨Hg, Hs, Hr⟩
  isplitl [Hg]; · iexact Hg
  isplitl [Hs]
  · iapply (slots_joined c sM); iexact Hs
  · iapply (slots_joined c rM); iexact Hr
theorem scratch_eq (c : Dev nD) : (Pipeline.scopedRest (Ix := Unit) (Name := ℕ) (U := UU) (Lvl := ℕ) (Val := Elt F) spec0 c : sProp 𝕄) = scratch' c := by
  rw [scopedRest0_eq]; unfold scratch' gAt
  simp only [owns_whole]
  rfl

variable (m : (ℓ : Loc nD τ sig) → Buf (Elt F) ℓ) (ρ : Dev nD → PrngReg)

/-! ## The run's data -/

/-- A device's arguments, as the memory holds them. -/
def ops (c : Dev nD) : Ops F where
  x := m ((c : Thread nD τ).loc main_arg0)
  rt := m ((c : Thread nD τ).loc main_arg2)
  w := m ((c : Thread nD τ).loc main_arg3)

theorem stage_x (c : Dev nD) : (iblk m c 0 t0_0 : S1024x256.Idx → Elt F .bf16) = (ops m c).x := by
  funext i
  show m ((c : Thread nD τ).loc main_arg0) ((win0_0.rect t0_0).emb i) = m ((c : Thread nD τ).loc main_arg0) i
  congr 1; funext a; apply Fin.ext
  exact Pipeline.Window.rect_emb_val_of_index_zero _ _ a rfl i
theorem stage_t (c : Dev nD) : (iblk m c 1 t0_0 : S1024x1.Idx → Elt F .i32) = (ops m c).rt := by
  funext i
  show m ((c : Thread nD τ).loc main_arg2) ((win0_1.rect t0_0).emb i) = m ((c : Thread nD τ).loc main_arg2) i
  congr 1; funext a; apply Fin.ext
  exact Pipeline.Window.rect_emb_val_of_index_zero _ _ a rfl i
theorem stage_w (c : Dev nD) : (iblk m c 2 t0_0 : S4x256x512.Idx → Elt F .bf16) = (ops m c).w := by
  funext i
  show m ((c : Thread nD τ).loc main_arg3) ((win0_2.rect t0_0).emb i) = m ((c : Thread nD τ).loc main_arg3) i
  congr 1; funext a; apply Fin.ext
  exact Pipeline.Window.rect_emb_val_of_index_zero _ _ a rfl i

def start (c : Dev nD) : sProp 𝕄 := iprop(G₁ (ops m) c ∗ levAts L lv ∗ credits c)
def Φ₀ (c : Dev nD) : sProp 𝕄 := iprop(start m c ∗ scratch c)
def Φ₁ (c : Dev nD) : sProp 𝕄 := iprop(zeros c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ops m c).x
    | ⟨1, _⟩ => (ops m c).rt
    | ⟨2, _⟩ => (ops m c).w
    | ⟨3, _⟩ => out (ops m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem before_x (c : Dev nD) (d) : (dats m ρ 0 c).before (0 : Fin 4) t0_0 d = (ops m c).x := by
  unfold Dat.before; rw [if_pos (fetch0_0 t0_0)]; exact stage_x m c
theorem before_t (c : Dev nD) (d) : (dats m ρ 0 c).before (1 : Fin 4) t0_0 d = (ops m c).rt := by
  unfold Dat.before; rw [if_pos (fetch0_1 t0_0)]; exact stage_t m c
theorem before_w (c : Dev nD) (d) : (dats m ρ 0 c).before (2 : Fin 4) t0_0 d = (ops m c).w := by
  unfold Dat.before; rw [if_pos (fetch0_2 t0_0)]; exact stage_w m c

/-! ## The body at the one point of the grid -/

def bodyPre (c : Dev nD) : sProp 𝕄 :=
  iprop(Φ₀ m c ∗ (dats m ρ 0 c).owesAt () t0_0.castSucc
    ∗ (∃ d, owns (c : Thread nD τ) xM fullShare ((dats m ρ 0 c).before (0 : Fin 4) t0_0 d))
    ∗ (∃ d, owns (c : Thread nD τ) tM fullShare ((dats m ρ 0 c).before (1 : Fin 4) t0_0 d))
    ∗ (∃ d, owns (c : Thread nD τ) wM fullShare ((dats m ρ 0 c).before (2 : Fin 4) t0_0 d))
    ∗ (∃ d, owns (c : Thread nD τ) oM fullShare ((dats m ρ 0 c).before (3 : Fin 4) t0_0 d)))
def bodyPost (c : Dev nD) : sProp 𝕄 :=
  iprop(Φ₁ c ∗ (dats m ρ 0 c).owesAt () t0_0.succ
    ∗ owns (c : Thread nD τ) xM fullShare (ops m c).x ∗ owns (c : Thread nD τ) tM fullShare (ops m c).rt
    ∗ owns (c : Thread nD τ) wM fullShare (ops m c).w ∗ owns (c : Thread nD τ) oM fullShare (out (ops m) c))

set_option maxRecDepth 4000 in
/-- The body, from what the pipeline holds at its point to what it holds after it. -/
theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ run c (cc0_body xM (Memref.isWhole_whole _) tM (Memref.isWhole_whole _) wM (Memref.isWhole_whole _) oM (Memref.isWhole_whole _)
      gM (Memref.isWhole_whole _) sM (Memref.isWhole_whole _) rM (Memref.isWhole_whole _) cc0_scratch3 cc0_scratch4) (fun _ => bodyPost m ρ c)
  unfold bodyPre bodyPost Φ₀ start G₁
  simp only [before_x, before_t, before_w]
  iintro ⟨⟨⟨⟨%K, #HR, Hg⟩, #Hlev, Hcr⟩, Hscr⟩, Ho, ⟨%d0, Hx⟩, ⟨%d1, Ht⟩, ⟨%d2, Hw⟩, ⟨%d3, Hout⟩⟩
  iapply (body_run (ops m) K c fun _ => iprop(Φ₁ c ∗ (dats m ρ 0 c).owesAt () t0_0.succ
    ∗ owns (c : Thread nD τ) xM fullShare (ops m c).x ∗ owns (c : Thread nD τ) tM fullShare (ops m c).rt
    ∗ owns (c : Thread nD τ) wM fullShare (ops m c).w ∗ owns (c : Thread nD τ) oM fullShare (out (ops m) c)))
  isplitr; · iexact HR
  isplitr; · iexact Hlev
  isplitl [Hg]; · iexact Hg
  isplitl [Hcr]; · iexact Hcr
  isplitl [Hscr]; · iexact Hscr
  isplitl [Ho]
  · unfold Dat.owesAt Pipeline.owesWithin owe
    icases Ho with ⟨%W, -, HO⟩
    iexists W; iexact HO
  isplitl [Hx]; · iexact Hx
  isplitl [Ht]; · iexact Ht
  isplitl [Hw]; · iexact Hw
  isplitl [Hout]; · iexists _; iexact Hout
  iintro ⟨Hz, Hscr, Ho, Hx, Ht, Hw, Hout⟩
  unfold Φ₁
  isplitl [Hz Hscr]
  · isplitl [Hz] <;> iassumption
  isplitl [Ho]
  · unfold Dat.owesAt Pipeline.owesWithin owe
    icases Ho with ⟨%W, HO⟩
    iexists W
    isplitr; · ipureintro; exact fun _ _ => Or.inl trivial
    iexact HO
  isplitl [Hx]; · iexact Hx
  isplitl [Ht]; · iexact Ht
  isplitl [Hw]; · iexact Hw
  iexact Hout

/-! ## The launch -/

theorem ownSemFacts : Pipeline.OwnSemFacts cfg0.spec osem := by decide
theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf allCells allToks)

/-- The router weights, which the kernel does not touch. -/
def kept (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G₁ (ops m) c)
      ⊢ |={Set.univ}=> (iprop(start m c ∗ kept m c) : sProp 𝕄) := by
  rw [Pipeline.unscopedRestP_none, unscopedRest0_eq]
  iintro ⟨Hk, Hlev, Hcr, -, HG⟩
  ihave Hc := (credits_of (F := F) c) $$ Hcr
  imodintro
  unfold start kept
  isplitr [Hk]
  · isplitl [HG]; · iexact HG
    isplitl [Hlev] <;> iassumption
  · iexact Hk

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs]; · iexact Hs
  iapply (scratch_open c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, ownSems_eq, unscopedSems_eq]
  unfold Φ₁ zeros
  iintro ⟨⟨HB, HS, HV⟩, Hr⟩
  isplitl [HB]; · iexact HB
  isplitl [HS HV]
  · isplitl [HS] <;> iassumption
  iapply (scratch_close c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The arrays after the run -/

def finalA (c : Dev nD) (w : Fin cfg0.W) : Buf (Elt F) ((cfg0.win w).arr.view.loc (c : Thread nD τ)) := (dats m ρ 0 c).arrAt w cfg0.N

theorem win3_emb (t : Fin cfg0.N) (i : S256x512.Idx) : (win0_3.rect t).emb i = i := by
  rw [fin_N0 t]; funext a; apply Fin.ext
  exact Pipeline.Window.rect_emb_val_of_index_zero _ _ a rfl i

theorem finalA_out (c : Dev nD) : finalA m ρ c (3 : Fin 4) = out (ops m) c := by
  refine (dats m ρ 0 c).arrAt_eq_of_cover 3 (out (ops m) c) (fun t _ => ?_) (fun i => ⟨t0_0, flush0_3 _, ?_⟩)
  · unfold Pipeline.Dat.flushed
    funext i
    show out (ops m) c i = out (ops m) c ((win0_3.rect t).emb i)
    rw [win3_emb]
  · show i ∈ ((View.whole main_v1).slice (win0_3.rect t0_0)).set
    exact Finset.mem_map.mpr ⟨i, Finset.mem_univ _, win3_emb t0_0 i⟩

/-- The final memory: the result array of every device at its computed block, the four arguments as before. -/
def Post : PUnit × MemSt nD τ sig (Elt F) → Prop := fun r => ∀ c : Dev nD,
  r.2.mem ((c : Thread nD τ).loc main_v1) = out (ops m) c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)

set_option maxRecDepth 8000 in
/-- At any float values, from any memory with zero counters, every weakly fair execution of the four devices
    ends, with each device's result at its block, its arguments unchanged and every counter at zero. -/
theorem run_main : θ_run defs (onTc (τ := τ) (main (F := F))) (s₀ m ρ) (fun r => Post m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G₀ (ops m)) (G' := G₁ (ops m)) (u₀ := u₀)
    (hu₀ := by
      unfold u₀
      iintro Hu
      ihave H := (ownU_pair _ _) $$ Hu
      icases H with ⟨HP, HX⟩
      imod (fund_all (ops m)) $$ HX with HG
      imodintro
      isplitl [HP] <;> iassumption)
    (hglob := glob (ops m))
    (hA := fun _ _ => rfl) (hpf := fun _ k => k.elim0)
    (X := start m) (Y := fun c => unscopedSems0 c) (Z := kept m)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold kept
      iintro ⟨Hu, Hk, HSI⟩
      icombine HSI Hk gives %hk
      have hk' := Buf.eq_of_forall_mem_univ hk
      ihave H := (Pipeline.unscopedSems0_read (X := unscopedSems0 c) (c := c) fupd_intro s') $$ [Hu HSI]
      · isplitl [Hu] <;> iassumption
      imod H with ⟨%h, H⟩
      imodintro
      isplitr; · ipureintro; exact ⟨hk', h⟩
      iexact H)
    (hQ := fun _ h hs => ⟨fun c => ⟨((h c).1 3).trans (finalA_out m ρ c), ((h c).1 0).trans ((dats m ρ 0 c).arrAt_in (0 : Fin 4) rfl _), (h c).2.2.1,
      ((h c).1 1).trans ((dats m ρ 0 c).arrAt_in (1 : Fin 4) rfl _), ((h c).1 2).trans ((dats m ρ 0 c).arrAt_in (2 : Fin 4) rfl _)⟩,
      sem_eq_zero hs fun c => (h c).2.2.2⟩)

end Cert.Moe

end
-- ==== Proof.Count.lean ====
/-
Counting with zeros and ones over the extended reals: a sum of indicators is a count, a running
count decides who finds a place with an expert, and the kernel's gate is the indicator of "this
token belongs to this expert and found a place".
-/
module

public import Idealize.ShloMosaic.Lib.Pointwise
public import Mathlib.Data.Nat.Count

@[expose] public section

noncomputable section

namespace Cert.Moe

open Idealize.ShloMosaic

/-- One where `p` holds, zero elsewhere. -/
def bit (p : Prop) [Decidable p] : EReal := if p then 1 else 0

theorem bit_true {p : Prop} [Decidable p] (h : p) : bit p = 1 := if_pos h
theorem bit_false {p : Prop} [Decidable p] (h : ¬ p) : bit p = 0 := if_neg h

theorem bit_congr {p q : Prop} [Decidable p] [Decidable q] (h : p ↔ q) : bit p = bit q := by
  unfold bit; simp only [h]

theorem bit_mul (p q : Prop) [Decidable p] [Decidable q] : bit p * bit q = bit (p ∧ q) := by
  unfold bit; split_ifs <;> simp_all

/-- A widened comparison bit read as a number. -/
theorem num_ofBool (p : Prop) [Decidable p] :
    (FloatOps.sitofp (F := Ideal) FTy.f32 (BitVec.setWidth 32 (BitVec.ofBool (decide p))) : EReal) = bit p := by
  by_cases h : p
  · rw [bit_true h]; simp [h, FloatOps.sitofp]
  · rw [bit_false h]; simp [h, FloatOps.sitofp]

theorem num_eq (a b : BitVec 32) :
    (FloatOps.sitofp (F := Ideal) FTy.f32 (BitVec.setWidth 32 (IntOp.cmpi CmpIPredicate.eq a b)) : EReal) = bit (a = b) := by
  rw [← num_ofBool]; rfl

/-- Comparing two positions of a chunk as words compares them as numbers. -/
theorem num_le (x r : Fin 256) :
    (FloatOps.sitofp (F := Ideal) FTy.f32 (BitVec.setWidth 32
      (IntOp.cmpi CmpIPredicate.sle (BitVec.ofNat 32 x.val) (BitVec.ofNat 32 r.val))) : EReal) = bit (x.val ≤ r.val) := by
  rw [← num_ofBool]
  have h : BitVec.sle (BitVec.ofNat 32 x.val) (BitVec.ofNat 32 r.val) = decide (x.val ≤ r.val) := by
    have hx := x.isLt
    have hr := r.isLt
    rw [BitVec.sle, BitVec.toInt_eq_toNat_of_lt (by simp; omega), BitVec.toInt_eq_toNat_of_lt (by simp; omega)]
    simp only [BitVec.toNat_ofNat, decide_eq_decide]
    omega
  exact congrArg (fun t => (FloatOps.sitofp (F := Ideal) FTy.f32 (BitVec.setWidth 32 (BitVec.ofBool t)) : EReal)) h

/-- The capacity, a float word, is the number 51. -/
theorem capacity : Ideal.ofBits FTy.f32 1112276992#32 = ((51 : ℕ) : EReal) := by
  rw [show ((51 : ℕ) : EReal) = ((51 : ℝ) : EReal) by norm_cast]
  simp [Ideal.ofBits, Ideal.ieee, -EReal.coe_mul]; norm_num

/-- A sum of indicators counts. -/
theorem sum_bit (P : ℕ → Prop) [DecidablePred P] (n : ℕ) : ∑ x : Fin n, bit (P x.val) = ((Nat.count P n : ℕ) : EReal) := by
  rw [Fin.sum_univ_eq_sum_range (fun x => bit (P x)) n]
  induction n with
  | zero => simp
  | succ n ih =>
    rw [Finset.sum_range_succ, ih, Nat.count_succ, Nat.cast_add]
    congr 1
    unfold bit; split_ifs <;> simp

/-- A sum of indicators masked to the positions up to `r` counts up to and with `r`. -/
theorem sum_bit_le (P : ℕ → Prop) [DecidablePred P] {n : ℕ} (r : Fin n) :
    ∑ x : Fin n, bit (x.val ≤ r.val) * bit (P x.val) = ((Nat.count P (r.val + 1) : ℕ) : EReal) := by
  simp only [bit_mul]
  rw [sum_bit (fun x => x ≤ r.val ∧ P x) n, Nat.count_eq_card_filter_range, Nat.count_eq_card_filter_range]
  congr 2
  ext x
  have := r.isLt
  simp only [Finset.mem_filter, Finset.mem_range]
  constructor
  · rintro ⟨-, h1, h2⟩; exact ⟨by omega, h2⟩
  · rintro ⟨h1, h2⟩; exact ⟨by omega, by omega, h2⟩

/-- Token `i` finds a place with its expert: fewer than 51 earlier tokens asked for the same one. -/
def Place (R : ℕ → BitVec 32) (i : ℕ) : Prop := Nat.count (fun j => R j = R i) i < 51

instance (R : ℕ → BitVec 32) (i : ℕ) : Decidable (Place R i) := Nat.decLt _ _

/-- A token that asks for expert `e` has a place just when the tokens up to and with itself that ask for `e`
are no more than 51. -/
theorem place_iff (R : ℕ → BitVec 32) (o r : ℕ) (e : BitVec 32) (h : R (o + r) = e) :
    (Nat.count (fun j => R (o + j) = e) (r + 1) + Nat.count (fun j => R j = e) o ≤ 51) ↔ Place R (o + r) := by
  subst h
  unfold Place
  rw [Nat.count_succ, if_pos rfl, Nat.count_add]
  omega

/-- THE GATE: the expert's own lane times the sum over all experts of "asks for it, and the running
count is within the capacity" is the indicator of "asks for this expert and has a place". -/
theorem gate_eq (R : ℕ → BitVec 32) (o : ℕ) (r : Fin 256) (a w : BitVec 32) (n : ℕ) (hn : n < 16) (seen : Fin 16 → EReal)
    (hseen : ∀ e : Fin 16, seen e = ((Nat.count (fun j => R j = BitVec.ofNat 32 e.val) o : ℕ) : EReal))
    (haw : a = w ↔ R (o + r.val) = BitVec.ofNat 32 n) :
    bit (a = w) * ∑ e : Fin 16, bit (R (o + r.val) = BitVec.ofNat 32 e.val)
        * bit ((∑ x : Fin 256, bit (x.val ≤ r.val) * bit (R (o + x.val) = BitVec.ofNat 32 e.val)) + seen e
            ≤ ((51 : ℕ) : EReal))
      = bit (R (o + r.val) = BitVec.ofNat 32 n ∧ Place R (o + r.val)) := by
  by_cases h : R (o + r.val) = BitVec.ofNat 32 n
  · rw [bit_true (haw.2 h), one_mul, Finset.sum_eq_single (⟨n, hn⟩ : Fin 16)]
    · rw [bit_true h, one_mul]
      refine bit_congr ?_
      rw [hseen, sum_bit_le (fun x => R (o + x) = BitVec.ofNat 32 n) r, ← Nat.cast_add, Nat.cast_le,
        place_iff R o r.val _ h]
      exact ⟨fun p => ⟨h, p⟩, fun p => p.2⟩
    · intro e _ he
      rw [bit_false, zero_mul]
      rw [h]
      intro hc
      apply he
      have h1 := congrArg BitVec.toNat hc
      have := e.isLt
      simp only [BitVec.toNat_ofNat] at h1
      exact Fin.ext (by show e.val = n; omega)
    · exact fun hc => absurd (Finset.mem_univ _) hc
  · rw [bit_false (fun hc => h (haw.1 hc)), zero_mul, bit_false (fun hc => h hc.1)]

end Cert.Moe

end
-- ==== Proof.Gates.lean ====
/-
The gate array over the extended reals: lane `l` of token `i` on device `c` is one where the token
asks for expert `4 c + l` and has a place, and zero elsewhere.
-/
module

public import proofs.«01_k».proof.Proof.Contents
public import proofs.«01_k».proof.Proof.Count
public import Idealize.ShloMosaic.Lib.Pointwise

@[expose] public section

set_option maxRecDepth 16384

noncomputable section

namespace Cert.Moe

open Cert.KernelIdeal Cert.KernelIdeal.Gen
open Idealize.ShloMosaic Idealize.ShloMosaic.TcCoe

/-- The route of token `n`, read off the column of routes. -/
def routeOf (rt : Vec Ideal S1024x1 .i32) (n : ℕ) : BitVec 32 := if h : n < 1024 then rt (ix2 ⟨n, h⟩ 0) else 0

theorem route_at (rt : Vec Ideal S1024x1 .i32) (n : ℕ) (h : n < 1024) : rt (ix2 ⟨n, h⟩ 0) = routeOf rt n := by
  unfold routeOf; rw [dif_pos h]

/-- Less the device's first expert the route is the lane exactly when it is that expert. -/
theorem lane_iff (c : Dev nD) (l : Fin 4) (a : BitVec 32) :
    IntOp.subi a (Scalar.muli (word c) 4#32) = BitVec.ofNat 32 l.val ↔ a = BitVec.ofNat 32 (4 * c.val + l.val) := by
  have hw : Scalar.muli (word c) 4#32 = BitVec.ofNat 32 (4 * c.val) := by revert c; decide
  rw [hw]
  show a - BitVec.ofNat 32 (4 * c.val) = _ ↔ _
  rw [BitVec.ofNat_add]
  generalize BitVec.ofNat 32 (4 * c.val) = u
  generalize BitVec.ofNat 32 l.val = v
  constructor
  · rintro rfl; rw [BitVec.add_comm, BitVec.sub_add_cancel]
  · rintro rfl; rw [BitVec.add_comm, BitVec.add_sub_cancel]

section
variable (rt : Vec Ideal S1024x1 .i32) (c : Dev nD) (r : Fin 256) (l : Fin 4)

theorem lane_lt : 4 * c.val + l.val < 16 := by
  have h : c.val < 4 := c.isLt
  have := l.isLt
  omega

/-- Gate lane `l` of token `i` on device `c`. -/
def gateAt (rt : Vec Ideal S1024x1 .i32) (c : Dev nD) (i : ℕ) (l : Fin 4) : EReal :=
  bit (routeOf rt i = BitVec.ofNat 32 (4 * c.val + l.val) ∧ Place (routeOf rt) i)

theorem gate0_at : gate0 (F := Ideal) rt c (ix2 r l) = gateAt rt c r.val l := by
  unfold gate0
  pointwise [k0_pay9, k0_pay4, k0_pay5, k0_pay6, k0_pay7, k0_pay3]
  simp only [num_eq, num_le, num_ofBool, route_at, capacity]
  have h := gate_eq (routeOf rt) 0 r (IntOp.subi (routeOf rt r.val) (Scalar.muli (word c) 4#32)) (BitVec.ofNat 32 l.val) _ (lane_lt c l)
    (fun _ => 0) (fun e => by simp) (by rw [Nat.zero_add]; exact lane_iff c l (routeOf rt r.val))
  simp only [Nat.zero_add, add_zero] at h
  exact h

theorem gate1_at : gate1 (F := Ideal) rt c (ix2 r l) = gateAt rt c (256 + r.val) l := by
  unfold gate1
  pointwise [k0_pay14, k0_pay13, k0_pay10, k0_pay11, k0_pay8, k0_pay4, k0_pay5, k0_pay6, k0_pay7, k0_pay3]
  simp only [num_eq, num_le, num_ofBool, route_at, capacity]
  exact gate_eq (routeOf rt) 256 r _ _ _ (lane_lt c l) _ (fun e => sum_bit (fun j => routeOf rt j = BitVec.ofNat 32 e.val) 256)
    (lane_iff c l (routeOf rt (256 + r.val)))

theorem gate2_at : gate2 (F := Ideal) rt c (ix2 r l) = gateAt rt c (512 + r.val) l := by
  unfold gate2 seen1
  pointwise [k0_pay18, k0_pay16, k0_pay15, k0_pay12, k0_pay10, k0_pay11, k0_pay8, k0_pay4, k0_pay5, k0_pay6, k0_pay7, k0_pay3]
  simp only [num_eq, num_le, num_ofBool, route_at, capacity]
  refine gate_eq (routeOf rt) 512 r _ _ _ (lane_lt c l) _ (fun e => ?_) (lane_iff c l (routeOf rt (512 + r.val)))
  have h0 := sum_bit (fun j => routeOf rt j = BitVec.ofNat 32 e.val) 256
  have h1 := sum_bit (fun j => routeOf rt (256 + j) = BitVec.ofNat 32 e.val) 256
  rw [h0, h1, ← Nat.cast_add, ← Nat.count_add]

theorem gate3_at : gate3 (F := Ideal) rt c (ix2 r l) = gateAt rt c (768 + r.val) l := by
  unfold gate3 seen2 seen1
  pointwise [k0_pay19, k0_pay17, k0_pay16, k0_pay15, k0_pay12, k0_pay10, k0_pay11, k0_pay8, k0_pay4, k0_pay5, k0_pay6, k0_pay7, k0_pay3]
  simp only [num_eq, num_le, num_ofBool, route_at, capacity]
  refine gate_eq (routeOf rt) 768 r _ _ _ (lane_lt c l) _ (fun e => ?_) (lane_iff c l (routeOf rt (768 + r.val)))
  have h0 := sum_bit (fun j => routeOf rt j = BitVec.ofNat 32 e.val) 256
  have h1 := sum_bit (fun j => routeOf rt (256 + j) = BitVec.ofNat 32 e.val) 256
  have h2 := sum_bit (fun j => routeOf rt (512 + j) = BitVec.ofNat 32 e.val) 256
  rw [h0, h1, h2]
  simp only [← Nat.cast_add, ← Nat.count_add]

end

/-- The gate array at any token. -/
theorem gates_at (rt : Vec Ideal S1024x1 .i32) (c : Dev nD) (i : Fin 1024) (l : Fin 4) :
    gates (F := Ideal) rt c (ix2 i l) = gateAt rt c i.val l := by
  have hi := i.isLt
  have hix : (ValueIdx.ix2 ⟨i.val % 256, Nat.mod_lt _ (by decide)⟩ l : S256x4.Idx)
      = ix2 ⟨i.val % 256, Nat.mod_lt _ (by decide)⟩ l := (ix2_eq_valueIdx _ _).symm
  unfold gates stack4
  show (if i.val < 256 then gate0 rt c (ValueIdx.ix2 ⟨i.val % 256, _⟩ l) else if i.val < 512 then gate1 rt c (ValueIdx.ix2 ⟨i.val % 256, _⟩ l)
    else if i.val < 768 then gate2 rt c (ValueIdx.ix2 ⟨i.val % 256, _⟩ l) else gate3 rt c (ValueIdx.ix2 ⟨i.val % 256, _⟩ l)) = _
  rw [hix, gate0_at, gate1_at, gate2_at, gate3_at]
  split_ifs <;> congr 1 <;> show _ = i.val <;> simp only <;> omega

end Cert.Moe

end
-- ==== Proof.Slabs.lean ====
/-
The partial products over the extended reals: what a device contributes to a row is the sum over
its four experts of the gated row times that expert's matrix, and a row of the result is the sum
of the four devices' contributions.
-/
module

public import proofs.«01_k».proof.Proof.Gates

@[expose] public section

set_option maxRecDepth 16384

noncomputable section

namespace Cert.Moe

open Cert.KernelIdeal Cert.KernelIdeal.Gen
open Idealize.ShloMosaic Idealize.ShloMosaic.TcCoe

/-- A sum over 1024 columns, four groups of 256. -/
theorem sum_groups (f : Fin 1024 → EReal) :
    ∑ x : Fin 1024, f x = ∑ l : Fin 4, ∑ k : Fin 256, f ⟨256 * l.val + k.val, by have := l.isLt; have := k.isLt; omega⟩ := by
  rw [← Fintype.sum_prod_type (f := fun p : Fin 4 × Fin 256 => f ⟨256 * p.1.val + p.2.val, by have := p.1.isLt; have := p.2.isLt; omega⟩)]
  refine (Fintype.sum_equiv (finProdFinEquiv (m := 4) (n := 256)) _ _ fun p => congrArg f (Fin.ext ?_)).symm
  simp [finProdFinEquiv]; omega

section
variable (w : Vec Ideal S4x256x512 .bf16) (x : Vec Ideal S128x256 .bf16) (g : Vec Ideal S128x4 .bf16) (r : Fin 128) (h : Fin 512)

/-- The product of gated rows with the four experts stacked, group by group. -/
theorem prodOf_at : prodOf (F := Ideal) (k0_pay20 w) x g (ix2 r h)
    = ∑ l : Fin 4, ∑ k : Fin 256, x (ix2 r k) * g (ix2 r l) * w (ix3 l k h) := by
  unfold prodOf
  pointwise [k0_pay40, k0_pay20]
  rw [sum_groups]
  refine Finset.sum_congr rfl fun l _ => Finset.sum_congr rfl fun k _ => ?_
  have hk := k.isLt
  have e1 : (⟨(256 * l.val + k.val) / 256, by have := l.isLt; omega⟩ : Fin 4) = l := Fin.ext (by show (256 * l.val + k.val) / 256 = l.val; omega)
  have e2 : (⟨(256 * l.val + k.val) % 256, by omega⟩ : Fin 256) = k := Fin.ext (by show (256 * l.val + k.val) % 256 = k.val; omega)
  refine congrArg₂ (· * ·) ?_ (congrArg₂ (fun a b => w (ix3 a b h)) e1 e2)
  have hx : ∀ (q : ℕ) (hq : q < 256), q = k.val → x (ix2 r ⟨q, hq⟩) = x (ix2 r k) := by rintro _ _ rfl; rfl
  have hg : ∀ q : Fin 4, q.val = l.val → g (ix2 r q) = g (ix2 r l) := fun q hq => by rw [Fin.ext hq]
  have hl := l.isLt
  dsimp only
  by_cases c0 : 256 * l.val + k.val < 256
  · rw [dif_pos c0, hx _ _ (by omega), hg 0 (by show 0 = l.val; omega)]
  rw [dif_neg c0]
  by_cases c1 : 256 * l.val + k.val - 256 < 256
  · rw [dif_pos c1, hx _ _ (by omega), hg 1 (by show 1 = l.val; omega)]
  rw [dif_neg c1]
  by_cases c2 : 256 * l.val + k.val - 256 - 256 < 256
  · rw [dif_pos c2, hx _ _ (by omega), hg 2 (by show 2 = l.val; omega)]
  · rw [dif_neg c2, hx _ _ (by omega), hg 3 (by show 3 = l.val; omega)]

/-- The slab that is sent holds the same numbers. -/
theorem slabOf_at : slabOf (F := Ideal) (k0_pay20 w) x g (ix3 0 r h)
    = ∑ l : Fin 4, ∑ k : Fin 256, x (ix2 r k) * g (ix2 r l) * w (ix3 l k h) := by
  rw [← prodOf_at]
  unfold slabOf prodOf
  pointwise [k0_pay40, k0_pay20, k0_pay23, k0_pay21, k0_pay22]

end

variable (V : Dev nD → Ops Ideal)

/-- What device `d` contributes to column `h` of row `i` of the result. -/
def part (d : Dev nD) (i : Fin 1024) (h : Fin 512) : EReal :=
  ∑ l : Fin 4, ∑ k : Fin 256, (V d).x (ix2 i k) * gateAt (V d).rt d i.val l * (V d).w (ix3 l k h)

/-- Row `r` of half `b` of device `c`, among all rows. -/
def row (c : Dev nD) (b : Fin 2) (r : Fin 128) : Fin 1024 :=
  ⟨256 * c.val + 128 * b.val + r.val, by have h : c.val < 4 := c.isLt; have := b.isLt; have := r.isLt; omega⟩

theorem xRows_at (x : Vec Ideal S1024x256 .bf16) (c : Dev nD) (b : Fin 2) (r : Fin 128) (k : Fin 256) :
    xRows x c b (ix2 r k) = x (ix2 (row c b r) k) := by
  unfold xRows VecWindow.window
  refine congrArg x (funext fun a => Fin.ext ?_)
  rw [Rect.emb_apply]
  fin_cases a
  · show 256 * c.val + 128 * b.val + 1 * r.val = 256 * c.val + 128 * b.val + r.val; omega
  · show 0 + 1 * k.val = k.val; omega

theorem gRows_at (g : Vec Ideal S1024x4 .bf16) (c : Dev nD) (b : Fin 2) (r : Fin 128) (l : Fin 4) :
    gRows g c b (ix2 r l) = g (ix2 (row c b r) l) := by
  unfold gRows VecWindow.window
  refine congrArg g (funext fun a => Fin.ext ?_)
  rw [Rect.emb_apply]
  fin_cases a
  · show 256 * c.val + 128 * b.val + 1 * r.val = 256 * c.val + 128 * b.val + r.val; omega
  · show 0 + 1 * l.val = l.val; omega

theorem own_at (c : Dev nD) (b : Fin 2) (r : Fin 128) (h : Fin 512) : own V c b (ix2 r h) = part V c (row c b r) h := by
  unfold own part
  rw [prodOf_at]
  simp only [xRows_at, gRows_at, gates_at]

theorem slab_at (c : Dev nD) (i : Fin 6) (r : Fin 128) (h : Fin 512) :
    slab V c i (ix3 0 r h) = part V c (row (tgt c i) (half i) r) h := by
  unfold slab part
  rw [slabOf_at]
  simp only [xRows_at, gRows_at, gates_at]

/-- What lands in slot `q` is the sender's contribution to the receiver's rows. -/
theorem landed_at (c : Dev nD) (q : Fin 6) (r : Fin 128) (h : Fin 512) :
    landed V c q (ix3 0 r h) = part V (src c q) (row c (half q) r) h := by
  unfold landed
  rw [slab_at, tgt_src, half_unland]

theorem out0_at (c : Dev nD) (r : Fin 128) (h : Fin 512) : out0 V c (ix2 r h)
    = part V c (row c 0 r) h + part V (sh c 1) (row c 0 r) h + part V (sh c 2) (row c 0 r) h + part V (sh c 3) (row c 0 r) h := by
  unfold out0
  pointwise [k0_pay1, k0_pay43, k0_pay44]
  rw [own_at, landed_at, landed_at, landed_at]
  rfl

theorem out1_at (c : Dev nD) (r : Fin 128) (h : Fin 512) : out1 V c (ix2 r h)
    = part V c (row c 1 r) h + part V (sh c 1) (row c 1 r) h + part V (sh c 2) (row c 1 r) h + part V (sh c 3) (row c 1 r) h := by
  unfold out1
  pointwise [k0_pay2]
  rw [own_at, landed_at, landed_at, landed_at]
  rfl

/-- Row `i` of device `c`, among all rows. -/
def rowOf (c : Dev nD) (i : Fin 256) : Fin 1024 := ⟨256 * c.val + i.val, by have h : c.val < 4 := c.isLt; have := i.isLt; omega⟩

/-- A row of the result is the sum of the four devices' contributions to it. -/
theorem out_at (c : Dev nD) (i : Fin 256) (h : Fin 512) : out V c (ix2 i h)
    = part V 0 (rowOf c i) h + part V 1 (rowOf c i) h + part V 2 (rowOf c i) h + part V 3 (rowOf c i) h := by
  have hi := i.isLt
  have key : out V c (ix2 i h) = part V c (rowOf c i) h + part V (sh c 1) (rowOf c i) h + part V (sh c 2) (rowOf c i) h
      + part V (sh c 3) (rowOf c i) h := by
    have hix : (ValueIdx.ix2 ⟨i.val % 128, Nat.mod_lt _ (by decide)⟩ h : S128x512.Idx)
        = ix2 ⟨i.val % 128, Nat.mod_lt _ (by decide)⟩ h := (ix2_eq_valueIdx _ _).symm
    unfold out stack2
    show (if i.val < 128 then out0 V c (ValueIdx.ix2 ⟨i.val % 128, _⟩ h) else out1 V c (ValueIdx.ix2 ⟨i.val % 128, _⟩ h)) = _
    rw [hix, out0_at, out1_at]
    split_ifs with hc
    · have e : row c 0 ⟨i.val % 128, Nat.mod_lt _ (by decide)⟩ = rowOf c i :=
        Fin.ext (by show 256 * c.val + 128 * 0 + i.val % 128 = 256 * c.val + i.val; omega)
      rw [e]
    · have e : row c 1 ⟨i.val % 128, Nat.mod_lt _ (by decide)⟩ = rowOf c i :=
        Fin.ext (by show 256 * c.val + 128 * 1 + i.val % 128 = 256 * c.val + i.val; omega)
      rw [e]
  rw [key]
  generalize rowOf c i = j
  have hs : ∀ c : Dev nD, (c = 0 ∧ sh c 1 = 1 ∧ sh c 2 = 2 ∧ sh c 3 = 3) ∨ (c = 1 ∧ sh c 1 = 2 ∧ sh c 2 = 3 ∧ sh c 3 = 0)
      ∨ (c = 2 ∧ sh c 1 = 3 ∧ sh c 2 = 0 ∧ sh c 3 = 1) ∨ (c = 3 ∧ sh c 1 = 0 ∧ sh c 2 = 1 ∧ sh c 3 = 2) := by decide
  rcases hs c with ⟨h0, h1, h2, h3⟩ | ⟨h0, h1, h2, h3⟩ | ⟨h0, h1, h2, h3⟩ | ⟨h0, h1, h2, h3⟩ <;> rw [h1, h2, h3, h0] <;> ac_rfl

end Cert.Moe

end
-- ==== Proof.Refer.lean ====
/-
The reference over the extended reals: an element of its result is the product of the token's row
with its expert's column if the token has a place, and zero otherwise, read off the chain of
sixteen selections.
-/
module

public import proofs.«01_k».proof.Proof.Slabs
public import proofs.«01_k».proof.Proof.Gen.ReferenceIdeal.Run
public import Idealize.ShloMosaic.Lib.Tactic.CleanTypes
public import Idealize.ShloMosaic.Lib.Routing.Ops

@[expose] public section

set_option maxRecDepth 16384

noncomputable section

namespace Cert.Moe

open Cert.ReferenceIdeal Cert.ReferenceIdeal.Gen Cert.ReferenceIdeal.Value
open Idealize.ShloMosaic Idealize.ShloMosaic.TcCoe

theorem route_val (rt : Vec Ideal S1024x1 .i32) (i : Fin 1024) : rt (ix2 i 0) = routeOf rt i.val := by
  unfold routeOf; rw [dif_pos i.isLt]

/-- Counting the earlier ones among all is counting up to here. -/
theorem count_earlier (R : ℕ → BitVec 32) (i : Fin 1024) :
    Nat.count (fun j => R j = R i.val ∧ j < i.val) 1024 = Nat.count (fun j => R j = R i.val) i.val := by
  rw [Nat.count_eq_card_filter_range, Nat.count_eq_card_filter_range]
  congr 1
  ext j
  have := i.isLt
  simp only [Finset.mem_filter, Finset.mem_range]
  constructor
  · rintro ⟨-, h1, h2⟩; exact ⟨h2, h1⟩
  · rintro ⟨h1, h2⟩; exact ⟨by omega, h2, h1⟩

/-- Words that hold small numbers compare as the numbers do. -/
theorem slt_small (a b : ℕ) (ha : a < 2 ^ 31) (hb : b < 2 ^ 31) :
    IntOp.cmpi CmpIPredicate.slt (BitVec.ofNat 32 a) (BitVec.ofNat 32 b) = BitVec.ofBool (decide (a < b)) := by
  refine congrArg BitVec.ofBool ?_
  show BitVec.slt _ _ = _
  rw [BitVec.slt, BitVec.toInt_eq_toNat_of_lt (by simp; omega), BitVec.toInt_eq_toNat_of_lt (by simp; omega)]
  simp only [BitVec.toNat_ofNat, decide_eq_decide]
  omega

theorem bit_and (p q : Prop) [Decidable p] [Decidable q] :
    IntOp.andi (BitVec.ofBool (decide p)) (BitVec.ofBool (decide q)) = 1#1 ↔ p ∧ q := by
  by_cases hp : p <;> by_cases hq : q <;> simp [hp, hq, IntOp.andi]

theorem eq_bit (a b : BitVec 32) : IntOp.cmpi CmpIPredicate.eq a b = BitVec.ofBool (decide (a = b)) := rfl

/-- A selection by "has a place and asks for this expert". -/
theorem select_takes (p : Prop) [Decidable p] (a b : BitVec 32) (x y : EReal) :
    Scalar.select (IntOp.andi (BitVec.ofBool (decide p)) (IntOp.cmpi CmpIPredicate.eq a b)) x y = if p ∧ a = b then x else y := by
  rw [eq_bit]
  unfold Scalar.select
  exact if_congr (bit_and _ _) rfl rfl

section
variable (V : Valuation τ sig (Elt Ideal))

abbrev tokens : Vec Ideal S1024x256 .bf16 := V (Proc.devRef .tc main_arg0)
abbrev routes : Vec Ideal S1024x1 .i32 := V (Proc.devRef .tc main_arg2)
abbrev experts : Vec Ideal S16x256x512 .bf16 := V (Proc.devRef .tc main_arg3)

/-- The reference's own test for a place. -/
theorem has_place_at (i : Fin 1024) :
    (res_main_v17 (F := Ideal) V : IVec S1024 1) (ix1 i) = BitVec.ofBool (decide (Place (routeOf (routes V)) i.val)) := by
  unfold res_main_v17
  clean_types
  rw [ix1_eq_valueIdx]
  refine (congrArg (fun t => IntOp.cmpi CmpIPredicate.slt t (51#32)) (Routing.reduce_count (n := 1024) (m := 1024) (by decide) _ _ _ _ i
    (fun q => routeOf (routes V) q = routeOf (routes V) i.val ∧ q < i.val) (fun q => ?_))).trans ?_
  · rw [← ix2_eq_valueIdx]
    pointwise [res_main_v1, res_main_v2]
    have hq := route_val (routes V) q
    have hi := route_val (routes V) i
    rw [← hq, ← hi, slt_small _ _ (by have := q.isLt; omega) (by have := i.isLt; omega), eq_bit]
    exact bit_and _ _
  · rw [count_earlier]
    have hle : Nat.count (fun j => routeOf (routes V) j = routeOf (routes V) i.val) i.val ≤ i.val := Nat.count_le _
    have := i.isLt
    exact slt_small _ 51 (by omega) (by omega)

/-- Token `i`'s row times column `h` of expert `n`. -/
def dotAt (x : Vec Ideal S1024x256 .bf16) (w : Vec Ideal S16x256x512 .bf16) (i : Fin 1024) (h : Fin 512) (n : Fin 16) : EReal :=
  ∑ k : Fin 256, x (ix2 i k) * w (ix3 n k h)

/-- What expert `n` contributes to an element of the result. -/
def share (x : Vec Ideal S1024x256 .bf16) (rt : Vec Ideal S1024x1 .i32) (w : Vec Ideal S16x256x512 .bf16) (i : Fin 1024) (h : Fin 512)
    (n : Fin 16) : EReal :=
  if routeOf rt i.val = BitVec.ofNat 32 n.val ∧ Place (routeOf rt) i.val then dotAt x w i h n else 0

/-- A chain of selections that exclude one another is the sum of what they select. -/
theorem chain_eq (P : Fin 16 → EReal) (p : Prop) [Decidable p] (a : BitVec 32) :
    (if p ∧ a = 15#32 then P 15 else if p ∧ a = 14#32 then P 14 else if p ∧ a = 13#32 then P 13 else if p ∧ a = 12#32 then P 12
      else if p ∧ a = 11#32 then P 11 else if p ∧ a = 10#32 then P 10 else if p ∧ a = 9#32 then P 9 else if p ∧ a = 8#32 then P 8
      else if p ∧ a = 7#32 then P 7 else if p ∧ a = 6#32 then P 6 else if p ∧ a = 5#32 then P 5 else if p ∧ a = 4#32 then P 4
      else if p ∧ a = 3#32 then P 3 else if p ∧ a = 2#32 then P 2 else if p ∧ a = 1#32 then P 1 else if p ∧ a = 0#32 then P 0 else 0)
      = ∑ n : Fin 16, if a = BitVec.ofNat 32 n.val ∧ p then P n else 0 := by
  by_cases hp : p
  · by_cases hn : ∃ n : Fin 16, a = BitVec.ofNat 32 n.val
    · obtain ⟨n, rfl⟩ := hn
      have hne : ∀ m : Fin 16, m ≠ n → ¬ (BitVec.ofNat 32 n.val = BitVec.ofNat 32 m.val ∧ p) := by
        rintro m hm ⟨h, -⟩
        have h1 := congrArg BitVec.toNat h
        have := m.isLt
        have := n.isLt
        simp only [BitVec.toNat_ofNat] at h1
        exact hm (Fin.ext (by omega))
      rw [Finset.sum_eq_single n (fun m _ hm => if_neg (hne m hm)) (fun h => absurd (Finset.mem_univ _) h), if_pos (c := BitVec.ofNat 32 n.val = BitVec.ofNat 32 n.val ∧ p) ⟨rfl, hp⟩]
      clear hne
      fin_cases n <;> simp [hp]
    · have hz : ∀ n : Fin 16, ¬ (a = BitVec.ofNat 32 n.val ∧ p) := fun n h => hn ⟨n, h.1⟩
      rw [Finset.sum_eq_zero (fun n _ => if_neg (hz n))]
      have h0 : ∀ m : ℕ, m < 16 → (a = BitVec.ofNat 32 m) = False := fun m hm => eq_false fun h => hn ⟨⟨m, hm⟩, h⟩
      simp [h0]
  · simp [hp]

/-- An element of the reference's result is the sum of the experts' shares. -/
theorem reference_at (i : Fin 1024) (h : Fin 512) :
    (res_main_v162 (F := Ideal) V : FVec Ideal S1024x512 .f32) (ix2 i h) = ∑ n : Fin 16, share (tokens V) (routes V) (experts V) i h n := by
  have hp := has_place_at V i
  have hr := route_val (routes V) i
  unfold res_main_v162
  clean_types
  pointwise [res_main_v0, res_main_v1, res_main_v90]
  clean_types
  pointwise [res_main_v0, res_main_v1]
  simp only [hp, select_takes]
  refine (chain_eq (dotAt (tokens V) (experts V) i h) (Place (routeOf (routes V)) i.val) (routes V (ix2 i 0))).trans ?_
  rw [hr]
  rfl

end

end Cert.Moe

end
-- ==== Proof.Equal.lean ====
/-
The equation: a device's block of the kernel's result is its block of the reference's.
-/
module

public import proofs.«01_k».proof.Proof.Refer
public import Idealize.ShloMosaic.Lib.Layout

@[expose] public section

set_option maxRecDepth 16384

noncomputable section

namespace Cert.Moe

open Cert.KernelIdeal Cert.KernelIdeal.Gen
open Idealize.ShloMosaic Idealize.ShloMosaic.TcCoe

/-- Expert `l` of device `d`, among all experts. -/
def expert (d : Dev nD) (l : Fin 4) : Fin 16 := ⟨4 * d.val + l.val, lane_lt d l⟩

/-- A gated product is the product where the gate is one, and zero where it is zero. -/
theorem gated_sum (x w : Fin 256 → EReal) (p : Prop) [Decidable p] :
    ∑ k : Fin 256, x k * bit p * w k = if p then ∑ k : Fin 256, x k * w k else 0 := by
  by_cases h : p
  · rw [bit_true h, if_pos h]; simp only [mul_one]
  · rw [bit_false h, if_neg h]; simp only [mul_zero, zero_mul, Finset.sum_const_zero]

/-- Device `d`'s four experts, of the sixteen. -/
theorem block_at (w : Vec Ideal ⟨3, ![16, 256, 512]⟩ .bf16) (d : Dev nD) (l : Fin 4) (k : Fin 256) (h : Fin 512) :
    (Layout.block ⟨3, ![4, 256, 512]⟩ ⟨3, ![16, 256, 512]⟩ 0 4 d w : Vec Ideal S4x256x512 .bf16) (ix3 l k h) = w (ix3 (expert d l) k h) := by
  refine congrArg w (funext fun a => Fin.ext ?_)
  fin_cases a
  · show d.val * 4 + l.val = 4 * d.val + l.val; omega
  · rfl
  · rfl

section
variable (V : Dev nD → Ops Ideal) (x : Vec Ideal S1024x256 .bf16) (rt : Vec Ideal S1024x1 .i32) (w : Vec Ideal ⟨3, ![16, 256, 512]⟩ .bf16)
  (hV : ∀ c, (V c).x = x ∧ (V c).rt = rt ∧ (V c).w = Layout.block ⟨3, ![4, 256, 512]⟩ ⟨3, ![16, 256, 512]⟩ 0 4 c w)

include hV in
/-- A device contributes the shares of its four experts. -/
theorem part_eq (d : Dev nD) (i : Fin 1024) (h : Fin 512) : part V d i h = ∑ l : Fin 4, share x rt w i h (expert d l) := by
  obtain ⟨hx, hr, hw⟩ := hV d
  unfold part
  refine Finset.sum_congr rfl fun l _ => ?_
  rw [hx, hr, hw]
  exact (Finset.sum_congr rfl fun k _ => congrArg (fun t => x (ix2 i k) * gateAt rt d i.val l * t) (block_at w d l k h)).trans
    (gated_sum _ _ _)

/-- Four experts on each of four devices are all sixteen. -/
theorem sum_devices (f : Fin 16 → EReal) :
    (∑ l, f (expert 0 l)) + (∑ l, f (expert 1 l)) + (∑ l, f (expert 2 l)) + (∑ l, f (expert 3 l)) = ∑ n : Fin 16, f n := by
  have h : ∑ d : Fin 4, ∑ l : Fin 4, f (expert d l) = ∑ n : Fin 16, f n := by
    rw [← Fintype.sum_prod_type (f := fun p : Fin 4 × Fin 4 => f (expert p.1 p.2))]
    refine Fintype.sum_equiv (finProdFinEquiv (m := 4) (n := 4)) _ _ fun p => congrArg f (Fin.ext ?_)
    show 4 * p.1.val + p.2.val = p.2.val + 4 * p.1.val
    omega
  exact (Fin.sum_univ_four (fun d : Fin 4 => ∑ l : Fin 4, f (expert d l))).symm.trans h

include hV in
/-- An element of the kernel's result is the sum of all experts' shares. -/
theorem kernel_at (c : Dev nD) (i : Fin 256) (h : Fin 512) : out V c (ix2 i h) = ∑ n : Fin 16, share x rt w (rowOf c i) h n := by
  rw [out_at, part_eq V x rt w hV, part_eq V x rt w hV, part_eq V x rt w hV, part_eq V x rt w hV, sum_devices]

end

/-- Where the devices hold their parts of the reference's arrays, each ends with its block of the reference's result. -/
theorem out_eq (V : Dev nD → Ops Ideal) (V' : Valuation Cert.ReferenceIdeal.τ Cert.ReferenceIdeal.sig (Elt Ideal))
    (hV : ∀ c, (V c).x = tokens V' ∧ (V c).rt = routes V'
      ∧ (V c).w = Layout.block ⟨3, ![4, 256, 512]⟩ ⟨3, ![16, 256, 512]⟩ 0 4 c (experts V')) (c : Dev nD) :
    out V c = (Layout.block ⟨2, ![256, 512]⟩ ⟨2, ![1024, 512]⟩ 0 4 c
      (Cert.ReferenceIdeal.Value.res_main_v162 (F := Ideal) V' : FVec Ideal ⟨2, ![1024, 512]⟩ .f32) : S256x512.Idx → EReal) := by
  funext y
  rw [eq_ix2 y]
  generalize (y 0 : Fin 256) = i
  generalize (y 1 : Fin 512) = h
  refine (kernel_at V _ _ _ hV c i h).trans ?_
  refine (reference_at V' (rowOf c i) h).symm.trans ?_
  refine congrArg (Cert.ReferenceIdeal.Value.res_main_v162 (F := Ideal) V' : FVec Ideal ⟨2, ![1024, 512]⟩ .f32) (funext fun a => Fin.ext ?_)
  fin_cases a
  · show 256 * c.val + i.val = c.val * 256 + i.val; omega
  · rfl

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- At any float values the kernel ends with its arguments and counters as they were. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (Cert.Moe.run_main m ρ)

/-- The two kernels' texts are the same, and so are the bodies that their labels name. -/
theorem bodies_same {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl
  | ⟨n + 1, h⟩, _ => exact absurd h (Nat.not_lt.2 (Nat.le_add_left _ _))

/-- With the pipeline's labels added they are the same again. -/
theorem labels_same {F : FTy → Type} [FloatOps F] : Cert.Kernel.defs (F := F) = Cert.KernelIdeal.defs (F := F) :=
  congrArg (Pipeline.defs (Cert.KernelIdeal.pcfgs (F := F))) bodies_same

/-- The kernel over machine numbers, whose text is the same. -/
theorem frame_kernel : Cert.quiescent_Kernel := by
  intro m ρ _
  rw [labels_same]
  exact frame_any (F := Bits) m ρ

/-- The kernel over ideal numbers. -/
theorem frame_ideal : Cert.quiescent_KernelIdeal := fun m ρ _ => frame_any (F := Ideal) m ρ

/-- And the reference, which has no counters. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Kernel and reference compute the same function: each device ends with its block of the reference's result. -/
theorem same_function : Cert.algebraic_KernelIdeal_ReferenceIdeal := by
  intro m ρ m' ρ' _ hm
  refine ⟨Cert.ReferenceIdeal.Value.res_main_v162 (F := Ideal) (StableHlo.launchContents m' 0), ?_, ?_⟩
  · refine (θ_run Cert.KernelIdeal.defs _ _).mono (fun r h c => ⟨(h.1 c).1.trans ?_, (h.1 c).2⟩) (Cert.Moe.run_main (F := Ideal) m ρ)
    exact Cert.Moe.out_eq (Cert.Moe.ops m) (StableHlo.launchContents m' 0) (fun c => ⟨(hm c).1, (hm c).2.2.1, (hm c).2.2.2⟩) c
  · exact (θ_run Cert.ReferenceIdeal.defs _ _).mono (fun r h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, same_function⟩

end Cert.Proof

end
